-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x8192 : Shape := ⟨2, ![4096, 8192]⟩
abbrev S1 : Shape := ⟨1, ![1]⟩
abbrev S4096x512 : Shape := ⟨2, ![4096, 512]⟩
abbrev S3x4096x512 : Shape := ⟨3, ![3, 4096, 512]⟩
abbrev S16x256x512 : Shape := ⟨3, ![16, 256, 512]⟩
abbrev S3 : Shape := ⟨1, ![3]⟩
abbrev S16 : Shape := ⟨1, ![16]⟩
abbrev S_ : Shape := ⟨0, ![]⟩
abbrev S1x4096x512 : Shape := ⟨3, ![1, 4096, 512]⟩
abbrev S256x512 : Shape := ⟨2, ![256, 512]⟩
abbrev S1x256x512 : Shape := ⟨3, ![1, 256, 512]⟩

abbrev nBuf : Space → Nat
  | .hbm => 5
  | .vmem => 5
  | .smem => 2
  | _ => 0

abbrev bufTy : (tb : Table) → Fin (tcTables nBuf tb) → BufTy
  | .hbm, ⟨0, _⟩ => ⟨S256x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S256x4096, .fp8e5m2⟩
  | .local _ .vmem, ⟨1, _⟩ => ⟨S4096x512, .f32⟩
  | .local _ .vmem, ⟨2, _⟩ => ⟨S3x4096x512, .fp8e5m2⟩
  | .local _ .vmem, ⟨3, _⟩ => ⟨S16x256x512, .bf16⟩
  | .local _ .vmem, ⟨4, _⟩ => ⟨S16x256x512, .bf16⟩
  | .local _ .smem, ⟨0, _⟩ => ⟨S1, .f32⟩
  | .local _ .smem, ⟨1, _⟩ => ⟨S1, .f32⟩
  | _, _ => ⟨S256x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c8_i32_139 : BitVec 32) : Fin 2 → Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v205 : BitVec 32 := Scalar.addi v2 c8_i32_139
  let c16_i32_140 : BitVec 32 := 16#32
  let c0_i32_141 : BitVec 32 := 0#32
  let v206 : BitVec 1 := Scalar.cmpi .eq c16_i32_140 c0_i32_141
  let c1_i32_142 : BitVec 32 := 1#32
  let v207 : BitVec 32 := Scalar.select v206 c1_i32_142 c16_i32_140
  let v208 : BitVec 32 := Scalar.remsi v205 v207
  let c0_i32_144 : BitVec 32 := 0#32
  let v210 : BitVec 1 := Scalar.cmpi .slt v208 c0_i32_144
  let c0_i32_145 : BitVec 32 := 0#32
  let v211 : BitVec 1 := Scalar.cmpi .slt v207 c0_i32_145
  let v212 : BitVec 1 := Scalar.xori v210 v211
  let c0_i32_143 : BitVec 32 := 0#32
  let v209 : BitVec 1 := Scalar.cmpi .ne v208 c0_i32_143
  let v213 : BitVec 1 := Scalar.andi v212 v209
  let v214 : BitVec 32 := Scalar.addi v208 v207
  let v215 : BitVec 32 := Scalar.select v213 v214 v208
  let c512_i32 : BitVec 32 := 512#32
  let v216 : BitVec 32 := Scalar.muli v215 c512_i32
  ![0, v216.toNat]
def k0_off2 (d0 : Dev nD) (c8_i32_164 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v239 : BitVec 32 := Scalar.addi v2 c8_i32_164
  let c16_i32_165 : BitVec 32 := 16#32
  let c0_i32_166 : BitVec 32 := 0#32
  let v240 : BitVec 1 := Scalar.cmpi .eq c16_i32_165 c0_i32_166
  let c1_i32_167 : BitVec 32 := 1#32
  let v241 : BitVec 32 := Scalar.select v240 c1_i32_167 c16_i32_165
  let v242 : BitVec 32 := Scalar.remsi v239 v241
  let c0_i32_169 : BitVec 32 := 0#32
  let v244 : BitVec 1 := Scalar.cmpi .slt v242 c0_i32_169
  let c0_i32_170 : BitVec 32 := 0#32
  let v245 : BitVec 1 := Scalar.cmpi .slt v241 c0_i32_170
  let v246 : BitVec 1 := Scalar.xori v244 v245
  let c0_i32_168 : BitVec 32 := 0#32
  let v243 : BitVec 1 := Scalar.cmpi .ne v242 c0_i32_168
  let v247 : BitVec 1 := Scalar.andi v246 v243
  let v248 : BitVec 32 := Scalar.addi v242 v241
  let v249 : BitVec 32 := Scalar.select v247 v248 v242
  let v292 : Index := Scalar.indexCast v249
  let c0_197 : Index := 0#32
  let c0_198 : Index := 0#32
  ![v292.toNat, 0, 0]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_202 : BitVec 32 := 0#32
  let c0_i32_203 : BitVec 32 := 0#32
  ![v2.toNat, 0, 0]
def k0_off5 (d0 : Dev nD) (c8_i32_164 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v239 : BitVec 32 := Scalar.addi v2 c8_i32_164
  let c16_i32_165 : BitVec 32 := 16#32
  let c0_i32_166 : BitVec 32 := 0#32
  let v240 : BitVec 1 := Scalar.cmpi .eq c16_i32_165 c0_i32_166
  let c1_i32_167 : BitVec 32 := 1#32
  let v241 : BitVec 32 := Scalar.select v240 c1_i32_167 c16_i32_165
  let v242 : BitVec 32 := Scalar.remsi v239 v241
  let c0_i32_169 : BitVec 32 := 0#32
  let v244 : BitVec 1 := Scalar.cmpi .slt v242 c0_i32_169
  let c0_i32_170 : BitVec 32 := 0#32
  let v245 : BitVec 1 := Scalar.cmpi .slt v241 c0_i32_170
  let v246 : BitVec 1 := Scalar.xori v244 v245
  let c0_i32_168 : BitVec 32 := 0#32
  let v243 : BitVec 1 := Scalar.cmpi .ne v242 c0_i32_168
  let v247 : BitVec 1 := Scalar.andi v246 v243
  let v248 : BitVec 32 := Scalar.addi v242 v241
  let v249 : BitVec 32 := Scalar.select v247 v248 v242
  let c0_i32_204 : BitVec 32 := 0#32
  let c0_i32_205 : BitVec 32 := 0#32
  ![v249.toNat, 0, 0]
def k0_dev16 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_164 : BitVec 32 := 8#32
  let v239 : BitVec 32 := Scalar.addi v2 c8_i32_164
  let c16_i32_165 : BitVec 32 := 16#32
  let c0_i32_166 : BitVec 32 := 0#32
  let v240 : BitVec 1 := Scalar.cmpi .eq c16_i32_165 c0_i32_166
  let c1_i32_167 : BitVec 32 := 1#32
  let v241 : BitVec 32 := Scalar.select v240 c1_i32_167 c16_i32_165
  let v242 : BitVec 32 := Scalar.remsi v239 v241
  let c0_i32_169 : BitVec 32 := 0#32
  let v244 : BitVec 1 := Scalar.cmpi .slt v242 c0_i32_169
  let c0_i32_170 : BitVec 32 := 0#32
  let v245 : BitVec 1 := Scalar.cmpi .slt v241 c0_i32_170
  let v246 : BitVec 1 := Scalar.xori v244 v245
  let c0_i32_168 : BitVec 32 := 0#32
  let v243 : BitVec 1 := Scalar.cmpi .ne v242 c0_i32_168
  let v247 : BitVec 1 := Scalar.andi v246 v243
  let v248 : BitVec 32 := Scalar.addi v242 v241
  let v249 : BitVec 32 := Scalar.select v247 v248 v242
  let c1_i32_200 : BitVec 32 := 1#32
  let v296 : BitVec 32 := Scalar.muli v249 c1_i32_200
  let v297 : BitVec 32 := Scalar.addi c0_i32_201 v296
  v297.toNat
def k0_dev17 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_206 : BitVec 32 := 9#32
  let v306 : BitVec 32 := Scalar.addi v2 c9_i32_206
  let c16_i32_207 : BitVec 32 := 16#32
  let c0_i32_208 : BitVec 32 := 0#32
  let v307 : BitVec 1 := Scalar.cmpi .eq c16_i32_207 c0_i32_208
  let c1_i32_209 : BitVec 32 := 1#32
  let v308 : BitVec 32 := Scalar.select v307 c1_i32_209 c16_i32_207
  let v309 : BitVec 32 := Scalar.remsi v306 v308
  let c0_i32_211 : BitVec 32 := 0#32
  let v311 : BitVec 1 := Scalar.cmpi .slt v309 c0_i32_211
  let c0_i32_212 : BitVec 32 := 0#32
  let v312 : BitVec 1 := Scalar.cmpi .slt v308 c0_i32_212
  let v313 : BitVec 1 := Scalar.xori v311 v312
  let c0_i32_210 : BitVec 32 := 0#32
  let v310 : BitVec 1 := Scalar.cmpi .ne v309 c0_i32_210
  let v314 : BitVec 1 := Scalar.andi v313 v310
  let v315 : BitVec 32 := Scalar.addi v309 v308
  let v316 : BitVec 32 := Scalar.select v314 v315 v309
  let c1_i32_242 : BitVec 32 := 1#32
  let v363 : BitVec 32 := Scalar.muli v316 c1_i32_242
  let v364 : BitVec 32 := Scalar.addi c0_i32_243 v363
  v364.toNat
def k0_dev18 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_248 : BitVec 32 := 7#32
  let v373 : BitVec 32 := Scalar.addi v2 c7_i32_248
  let c16_i32_249 : BitVec 32 := 16#32
  let c0_i32_250 : BitVec 32 := 0#32
  let v374 : BitVec 1 := Scalar.cmpi .eq c16_i32_249 c0_i32_250
  let c1_i32_251 : BitVec 32 := 1#32
  let v375 : BitVec 32 := Scalar.select v374 c1_i32_251 c16_i32_249
  let v376 : BitVec 32 := Scalar.remsi v373 v375
  let c0_i32_253 : BitVec 32 := 0#32
  let v378 : BitVec 1 := Scalar.cmpi .slt v376 c0_i32_253
  let c0_i32_254 : BitVec 32 := 0#32
  let v379 : BitVec 1 := Scalar.cmpi .slt v375 c0_i32_254
  let v380 : BitVec 1 := Scalar.xori v378 v379
  let c0_i32_252 : BitVec 32 := 0#32
  let v377 : BitVec 1 := Scalar.cmpi .ne v376 c0_i32_252
  let v381 : BitVec 1 := Scalar.andi v380 v377
  let v382 : BitVec 32 := Scalar.addi v376 v375
  let v383 : BitVec 32 := Scalar.select v381 v382 v376
  let c1_i32_284 : BitVec 32 := 1#32
  let v430 : BitVec 32 := Scalar.muli v383 c1_i32_284
  let v431 : BitVec 32 := Scalar.addi c0_i32_285 v430
  v431.toNat
def k0_dev19 (d0 : Dev nD) : Nat :=
  let c0_i32_328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_290 : BitVec 32 := 10#32
  let v440 : BitVec 32 := Scalar.addi v2 c10_i32_290
  let c16_i32_291 : BitVec 32 := 16#32
  let c0_i32_292 : BitVec 32 := 0#32
  let v441 : BitVec 1 := Scalar.cmpi .eq c16_i32_291 c0_i32_292
  let c1_i32_293 : BitVec 32 := 1#32
  let v442 : BitVec 32 := Scalar.select v441 c1_i32_293 c16_i32_291
  let v443 : BitVec 32 := Scalar.remsi v440 v442
  let c0_i32_295 : BitVec 32 := 0#32
  let v445 : BitVec 1 := Scalar.cmpi .slt v443 c0_i32_295
  let c0_i32_296 : BitVec 32 := 0#32
  let v446 : BitVec 1 := Scalar.cmpi .slt v442 c0_i32_296
  let v447 : BitVec 1 := Scalar.xori v445 v446
  let c0_i32_294 : BitVec 32 := 0#32
  let v444 : BitVec 1 := Scalar.cmpi .ne v443 c0_i32_294
  let v448 : BitVec 1 := Scalar.andi v447 v444
  let v449 : BitVec 32 := Scalar.addi v443 v442
  let v450 : BitVec 32 := Scalar.select v448 v449 v443
  let c1_i32_327 : BitVec 32 := 1#32
  let v497 : BitVec 32 := Scalar.muli v450 c1_i32_327
  let v498 : BitVec 32 := Scalar.addi c0_i32_328 v497
  v498.toNat
def k0_dev20 (d0 : Dev nD) : Nat :=
  let c0_i32_371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_333 : BitVec 32 := 6#32
  let v507 : BitVec 32 := Scalar.addi v2 c6_i32_333
  let c16_i32_334 : BitVec 32 := 16#32
  let c0_i32_335 : BitVec 32 := 0#32
  let v508 : BitVec 1 := Scalar.cmpi .eq c16_i32_334 c0_i32_335
  let c1_i32_336 : BitVec 32 := 1#32
  let v509 : BitVec 32 := Scalar.select v508 c1_i32_336 c16_i32_334
  let v510 : BitVec 32 := Scalar.remsi v507 v509
  let c0_i32_338 : BitVec 32 := 0#32
  let v512 : BitVec 1 := Scalar.cmpi .slt v510 c0_i32_338
  let c0_i32_339 : BitVec 32 := 0#32
  let v513 : BitVec 1 := Scalar.cmpi .slt v509 c0_i32_339
  let v514 : BitVec 1 := Scalar.xori v512 v513
  let c0_i32_337 : BitVec 32 := 0#32
  let v511 : BitVec 1 := Scalar.cmpi .ne v510 c0_i32_337
  let v515 : BitVec 1 := Scalar.andi v514 v511
  let v516 : BitVec 32 := Scalar.addi v510 v509
  let v517 : BitVec 32 := Scalar.select v515 v516 v510
  let c1_i32_370 : BitVec 32 := 1#32
  let v564 : BitVec 32 := Scalar.muli v517 c1_i32_370
  let v565 : BitVec 32 := Scalar.addi c0_i32_371 v564
  v565.toNat
def k0_dev21 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_376 : BitVec 32 := 11#32
  let v574 : BitVec 32 := Scalar.addi v2 c11_i32_376
  let c16_i32_377 : BitVec 32 := 16#32
  let c0_i32_378 : BitVec 32 := 0#32
  let v575 : BitVec 1 := Scalar.cmpi .eq c16_i32_377 c0_i32_378
  let c1_i32_379 : BitVec 32 := 1#32
  let v576 : BitVec 32 := Scalar.select v575 c1_i32_379 c16_i32_377
  let v577 : BitVec 32 := Scalar.remsi v574 v576
  let c0_i32_381 : BitVec 32 := 0#32
  let v579 : BitVec 1 := Scalar.cmpi .slt v577 c0_i32_381
  let c0_i32_382 : BitVec 32 := 0#32
  let v580 : BitVec 1 := Scalar.cmpi .slt v576 c0_i32_382
  let v581 : BitVec 1 := Scalar.xori v579 v580
  let c0_i32_380 : BitVec 32 := 0#32
  let v578 : BitVec 1 := Scalar.cmpi .ne v577 c0_i32_380
  let v582 : BitVec 1 := Scalar.andi v581 v578
  let v583 : BitVec 32 := Scalar.addi v577 v576
  let v584 : BitVec 32 := Scalar.select v582 v583 v577
  let c1_i32_413 : BitVec 32 := 1#32
  let v631 : BitVec 32 := Scalar.muli v584 c1_i32_413
  let v632 : BitVec 32 := Scalar.addi c0_i32_414 v631
  v632.toNat
def k0_dev22 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_419 : BitVec 32 := 5#32
  let v641 : BitVec 32 := Scalar.addi v2 c5_i32_419
  let c16_i32_420 : BitVec 32 := 16#32
  let c0_i32_421 : BitVec 32 := 0#32
  let v642 : BitVec 1 := Scalar.cmpi .eq c16_i32_420 c0_i32_421
  let c1_i32_422 : BitVec 32 := 1#32
  let v643 : BitVec 32 := Scalar.select v642 c1_i32_422 c16_i32_420
  let v644 : BitVec 32 := Scalar.remsi v641 v643
  let c0_i32_424 : BitVec 32 := 0#32
  let v646 : BitVec 1 := Scalar.cmpi .slt v644 c0_i32_424
  let c0_i32_425 : BitVec 32 := 0#32
  let v647 : BitVec 1 := Scalar.cmpi .slt v643 c0_i32_425
  let v648 : BitVec 1 := Scalar.xori v646 v647
  let c0_i32_423 : BitVec 32 := 0#32
  let v645 : BitVec 1 := Scalar.cmpi .ne v644 c0_i32_423
  let v649 : BitVec 1 := Scalar.andi v648 v645
  let v650 : BitVec 32 := Scalar.addi v644 v643
  let v651 : BitVec 32 := Scalar.select v649 v650 v644
  let c1_i32_456 : BitVec 32 := 1#32
  let v698 : BitVec 32 := Scalar.muli v651 c1_i32_456
  let v699 : BitVec 32 := Scalar.addi c0_i32_457 v698
  v699.toNat
def k0_dev23 (d0 : Dev nD) : Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_462 : BitVec 32 := 12#32
  let v708 : BitVec 32 := Scalar.addi v2 c12_i32_462
  let c16_i32_463 : BitVec 32 := 16#32
  let c0_i32_464 : BitVec 32 := 0#32
  let v709 : BitVec 1 := Scalar.cmpi .eq c16_i32_463 c0_i32_464
  let c1_i32_465 : BitVec 32 := 1#32
  let v710 : BitVec 32 := Scalar.select v709 c1_i32_465 c16_i32_463
  let v711 : BitVec 32 := Scalar.remsi v708 v710
  let c0_i32_467 : BitVec 32 := 0#32
  let v713 : BitVec 1 := Scalar.cmpi .slt v711 c0_i32_467
  let c0_i32_468 : BitVec 32 := 0#32
  let v714 : BitVec 1 := Scalar.cmpi .slt v710 c0_i32_468
  let v715 : BitVec 1 := Scalar.xori v713 v714
  let c0_i32_466 : BitVec 32 := 0#32
  let v712 : BitVec 1 := Scalar.cmpi .ne v711 c0_i32_466
  let v716 : BitVec 1 := Scalar.andi v715 v712
  let v717 : BitVec 32 := Scalar.addi v711 v710
  let v718 : BitVec 32 := Scalar.select v716 v717 v711
  let c1_i32_499 : BitVec 32 := 1#32
  let v765 : BitVec 32 := Scalar.muli v718 c1_i32_499
  let v766 : BitVec 32 := Scalar.addi c0_i32_500 v765
  v766.toNat
def k0_dev24 (d0 : Dev nD) : Nat :=
  let c0_i32_543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_505 : BitVec 32 := 4#32
  let v775 : BitVec 32 := Scalar.addi v2 c4_i32_505
  let c16_i32_506 : BitVec 32 := 16#32
  let c0_i32_507 : BitVec 32 := 0#32
  let v776 : BitVec 1 := Scalar.cmpi .eq c16_i32_506 c0_i32_507
  let c1_i32_508 : BitVec 32 := 1#32
  let v777 : BitVec 32 := Scalar.select v776 c1_i32_508 c16_i32_506
  let v778 : BitVec 32 := Scalar.remsi v775 v777
  let c0_i32_510 : BitVec 32 := 0#32
  let v780 : BitVec 1 := Scalar.cmpi .slt v778 c0_i32_510
  let c0_i32_511 : BitVec 32 := 0#32
  let v781 : BitVec 1 := Scalar.cmpi .slt v777 c0_i32_511
  let v782 : BitVec 1 := Scalar.xori v780 v781
  let c0_i32_509 : BitVec 32 := 0#32
  let v779 : BitVec 1 := Scalar.cmpi .ne v778 c0_i32_509
  let v783 : BitVec 1 := Scalar.andi v782 v779
  let v784 : BitVec 32 := Scalar.addi v778 v777
  let v785 : BitVec 32 := Scalar.select v783 v784 v778
  let c1_i32_542 : BitVec 32 := 1#32
  let v832 : BitVec 32 := Scalar.muli v785 c1_i32_542
  let v833 : BitVec 32 := Scalar.addi c0_i32_543 v832
  v833.toNat
def k0_dev25 (d0 : Dev nD) : Nat :=
  let c0_i32_586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_548 : BitVec 32 := 13#32
  let v842 : BitVec 32 := Scalar.addi v2 c13_i32_548
  let c16_i32_549 : BitVec 32 := 16#32
  let c0_i32_550 : BitVec 32 := 0#32
  let v843 : BitVec 1 := Scalar.cmpi .eq c16_i32_549 c0_i32_550
  let c1_i32_551 : BitVec 32 := 1#32
  let v844 : BitVec 32 := Scalar.select v843 c1_i32_551 c16_i32_549
  let v845 : BitVec 32 := Scalar.remsi v842 v844
  let c0_i32_553 : BitVec 32 := 0#32
  let v847 : BitVec 1 := Scalar.cmpi .slt v845 c0_i32_553
  let c0_i32_554 : BitVec 32 := 0#32
  let v848 : BitVec 1 := Scalar.cmpi .slt v844 c0_i32_554
  let v849 : BitVec 1 := Scalar.xori v847 v848
  let c0_i32_552 : BitVec 32 := 0#32
  let v846 : BitVec 1 := Scalar.cmpi .ne v845 c0_i32_552
  let v850 : BitVec 1 := Scalar.andi v849 v846
  let v851 : BitVec 32 := Scalar.addi v845 v844
  let v852 : BitVec 32 := Scalar.select v850 v851 v845
  let c1_i32_585 : BitVec 32 := 1#32
  let v899 : BitVec 32 := Scalar.muli v852 c1_i32_585
  let v900 : BitVec 32 := Scalar.addi c0_i32_586 v899
  v900.toNat
def k0_dev26 (d0 : Dev nD) : Nat :=
  let c0_i32_629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_591 : BitVec 32 := 3#32
  let v909 : BitVec 32 := Scalar.addi v2 c3_i32_591
  let c16_i32_592 : BitVec 32 := 16#32
  let c0_i32_593 : BitVec 32 := 0#32
  let v910 : BitVec 1 := Scalar.cmpi .eq c16_i32_592 c0_i32_593
  let c1_i32_594 : BitVec 32 := 1#32
  let v911 : BitVec 32 := Scalar.select v910 c1_i32_594 c16_i32_592
  let v912 : BitVec 32 := Scalar.remsi v909 v911
  let c0_i32_596 : BitVec 32 := 0#32
  let v914 : BitVec 1 := Scalar.cmpi .slt v912 c0_i32_596
  let c0_i32_597 : BitVec 32 := 0#32
  let v915 : BitVec 1 := Scalar.cmpi .slt v911 c0_i32_597
  let v916 : BitVec 1 := Scalar.xori v914 v915
  let c0_i32_595 : BitVec 32 := 0#32
  let v913 : BitVec 1 := Scalar.cmpi .ne v912 c0_i32_595
  let v917 : BitVec 1 := Scalar.andi v916 v913
  let v918 : BitVec 32 := Scalar.addi v912 v911
  let v919 : BitVec 32 := Scalar.select v917 v918 v912
  let c1_i32_628 : BitVec 32 := 1#32
  let v966 : BitVec 32 := Scalar.muli v919 c1_i32_628
  let v967 : BitVec 32 := Scalar.addi c0_i32_629 v966
  v967.toNat
def k0_dev27 (d0 : Dev nD) : Nat :=
  let c0_i32_672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_634 : BitVec 32 := 14#32
  let v976 : BitVec 32 := Scalar.addi v2 c14_i32_634
  let c16_i32_635 : BitVec 32 := 16#32
  let c0_i32_636 : BitVec 32 := 0#32
  let v977 : BitVec 1 := Scalar.cmpi .eq c16_i32_635 c0_i32_636
  let c1_i32_637 : BitVec 32 := 1#32
  let v978 : BitVec 32 := Scalar.select v977 c1_i32_637 c16_i32_635
  let v979 : BitVec 32 := Scalar.remsi v976 v978
  let c0_i32_639 : BitVec 32 := 0#32
  let v981 : BitVec 1 := Scalar.cmpi .slt v979 c0_i32_639
  let c0_i32_640 : BitVec 32 := 0#32
  let v982 : BitVec 1 := Scalar.cmpi .slt v978 c0_i32_640
  let v983 : BitVec 1 := Scalar.xori v981 v982
  let c0_i32_638 : BitVec 32 := 0#32
  let v980 : BitVec 1 := Scalar.cmpi .ne v979 c0_i32_638
  let v984 : BitVec 1 := Scalar.andi v983 v980
  let v985 : BitVec 32 := Scalar.addi v979 v978
  let v986 : BitVec 32 := Scalar.select v984 v985 v979
  let c1_i32_671 : BitVec 32 := 1#32
  let v1033 : BitVec 32 := Scalar.muli v986 c1_i32_671
  let v1034 : BitVec 32 := Scalar.addi c0_i32_672 v1033
  v1034.toNat
def k0_dev28 (d0 : Dev nD) : Nat :=
  let c0_i32_715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_677 : BitVec 32 := 2#32
  let v1043 : BitVec 32 := Scalar.addi v2 c2_i32_677
  let c16_i32_678 : BitVec 32 := 16#32
  let c0_i32_679 : BitVec 32 := 0#32
  let v1044 : BitVec 1 := Scalar.cmpi .eq c16_i32_678 c0_i32_679
  let c1_i32_680 : BitVec 32 := 1#32
  let v1045 : BitVec 32 := Scalar.select v1044 c1_i32_680 c16_i32_678
  let v1046 : BitVec 32 := Scalar.remsi v1043 v1045
  let c0_i32_682 : BitVec 32 := 0#32
  let v1048 : BitVec 1 := Scalar.cmpi .slt v1046 c0_i32_682
  let c0_i32_683 : BitVec 32 := 0#32
  let v1049 : BitVec 1 := Scalar.cmpi .slt v1045 c0_i32_683
  let v1050 : BitVec 1 := Scalar.xori v1048 v1049
  let c0_i32_681 : BitVec 32 := 0#32
  let v1047 : BitVec 1 := Scalar.cmpi .ne v1046 c0_i32_681
  let v1051 : BitVec 1 := Scalar.andi v1050 v1047
  let v1052 : BitVec 32 := Scalar.addi v1046 v1045
  let v1053 : BitVec 32 := Scalar.select v1051 v1052 v1046
  let c1_i32_714 : BitVec 32 := 1#32
  let v1100 : BitVec 32 := Scalar.muli v1053 c1_i32_714
  let v1101 : BitVec 32 := Scalar.addi c0_i32_715 v1100
  v1101.toNat
def k0_dev29 (d0 : Dev nD) : Nat :=
  let c0_i32_758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_720 : BitVec 32 := 15#32
  let v1110 : BitVec 32 := Scalar.addi v2 c15_i32_720
  let c16_i32_721 : BitVec 32 := 16#32
  let c0_i32_722 : BitVec 32 := 0#32
  let v1111 : BitVec 1 := Scalar.cmpi .eq c16_i32_721 c0_i32_722
  let c1_i32_723 : BitVec 32 := 1#32
  let v1112 : BitVec 32 := Scalar.select v1111 c1_i32_723 c16_i32_721
  let v1113 : BitVec 32 := Scalar.remsi v1110 v1112
  let c0_i32_725 : BitVec 32 := 0#32
  let v1115 : BitVec 1 := Scalar.cmpi .slt v1113 c0_i32_725
  let c0_i32_726 : BitVec 32 := 0#32
  let v1116 : BitVec 1 := Scalar.cmpi .slt v1112 c0_i32_726
  let v1117 : BitVec 1 := Scalar.xori v1115 v1116
  let c0_i32_724 : BitVec 32 := 0#32
  let v1114 : BitVec 1 := Scalar.cmpi .ne v1113 c0_i32_724
  let v1118 : BitVec 1 := Scalar.andi v1117 v1114
  let v1119 : BitVec 32 := Scalar.addi v1113 v1112
  let v1120 : BitVec 32 := Scalar.select v1118 v1119 v1113
  let c1_i32_757 : BitVec 32 := 1#32
  let v1167 : BitVec 32 := Scalar.muli v1120 c1_i32_757
  let v1168 : BitVec 32 := Scalar.addi c0_i32_758 v1167
  v1168.toNat
def k0_dev30 (d0 : Dev nD) : Nat :=
  let c0_i32_788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_763 : BitVec 32 := 1#32
  let v1177 : BitVec 32 := Scalar.addi v2 c1_i32_763
  let c16_i32_764 : BitVec 32 := 16#32
  let c0_i32_765 : BitVec 32 := 0#32
  let v1178 : BitVec 1 := Scalar.cmpi .eq c16_i32_764 c0_i32_765
  let c1_i32_766 : BitVec 32 := 1#32
  let v1179 : BitVec 32 := Scalar.select v1178 c1_i32_766 c16_i32_764
  let v1180 : BitVec 32 := Scalar.remsi v1177 v1179
  let c0_i32_768 : BitVec 32 := 0#32
  let v1182 : BitVec 1 := Scalar.cmpi .slt v1180 c0_i32_768
  let c0_i32_769 : BitVec 32 := 0#32
  let v1183 : BitVec 1 := Scalar.cmpi .slt v1179 c0_i32_769
  let v1184 : BitVec 1 := Scalar.xori v1182 v1183
  let c0_i32_767 : BitVec 32 := 0#32
  let v1181 : BitVec 1 := Scalar.cmpi .ne v1180 c0_i32_767
  let v1185 : BitVec 1 := Scalar.andi v1184 v1181
  let v1186 : BitVec 32 := Scalar.addi v1180 v1179
  let v1187 : BitVec 32 := Scalar.select v1185 v1186 v1180
  let c1_i32_787 : BitVec 32 := 1#32
  let v1217 : BitVec 32 := Scalar.muli v1187 c1_i32_787
  let v1218 : BitVec 32 := Scalar.addi c0_i32_788 v1217
  v1218.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v1250 : BitVec 32 := Scalar.muli v2 c256_i32
  let v1251 : Index := Scalar.indexCast v1250
  let c0_807 : Index := 0#32
  ![v1251.toNat, 0]
def k0_off7 (d0 : Dev nD) (c8_i32_808 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1253 : BitVec 32 := Scalar.addi v2 c8_i32_808
  let c16_i32_809 : BitVec 32 := 16#32
  let c0_i32_810 : BitVec 32 := 0#32
  let v1254 : BitVec 1 := Scalar.cmpi .eq c16_i32_809 c0_i32_810
  let c1_i32_811 : BitVec 32 := 1#32
  let v1255 : BitVec 32 := Scalar.select v1254 c1_i32_811 c16_i32_809
  let v1256 : BitVec 32 := Scalar.remsi v1253 v1255
  let c0_i32_813 : BitVec 32 := 0#32
  let v1258 : BitVec 1 := Scalar.cmpi .slt v1256 c0_i32_813
  let c0_i32_814 : BitVec 32 := 0#32
  let v1259 : BitVec 1 := Scalar.cmpi .slt v1255 c0_i32_814
  let v1260 : BitVec 1 := Scalar.xori v1258 v1259
  let c0_i32_812 : BitVec 32 := 0#32
  let v1257 : BitVec 1 := Scalar.cmpi .ne v1256 c0_i32_812
  let v1261 : BitVec 1 := Scalar.andi v1260 v1257
  let v1262 : BitVec 32 := Scalar.addi v1256 v1255
  let v1263 : BitVec 32 := Scalar.select v1261 v1262 v1256
  ![v1263.toNat]
def k0_off8 (d0 : Dev nD) (c8_i32_808 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1253 : BitVec 32 := Scalar.addi v2 c8_i32_808
  let c16_i32_809 : BitVec 32 := 16#32
  let c0_i32_810 : BitVec 32 := 0#32
  let v1254 : BitVec 1 := Scalar.cmpi .eq c16_i32_809 c0_i32_810
  let c1_i32_811 : BitVec 32 := 1#32
  let v1255 : BitVec 32 := Scalar.select v1254 c1_i32_811 c16_i32_809
  let v1256 : BitVec 32 := Scalar.remsi v1253 v1255
  let c0_i32_813 : BitVec 32 := 0#32
  let v1258 : BitVec 1 := Scalar.cmpi .slt v1256 c0_i32_813
  let c0_i32_814 : BitVec 32 := 0#32
  let v1259 : BitVec 1 := Scalar.cmpi .slt v1255 c0_i32_814
  let v1260 : BitVec 1 := Scalar.xori v1258 v1259
  let c0_i32_812 : BitVec 32 := 0#32
  let v1257 : BitVec 1 := Scalar.cmpi .ne v1256 c0_i32_812
  let v1261 : BitVec 1 := Scalar.andi v1260 v1257
  let v1262 : BitVec 32 := Scalar.addi v1256 v1255
  let v1263 : BitVec 32 := Scalar.select v1261 v1262 v1256
  let c256_i32_824 : BitVec 32 := 256#32
  let v1276 : BitVec 32 := Scalar.muli v1263 c256_i32_824
  let v1277 : Index := Scalar.indexCast v1276
  let c0_825 : Index := 0#32
  ![v1277.toNat, 0]
abbrev stage0_0 : Fin 1 → Memref sig .tc .vmem S256x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Body.lean ====
/-
The kernel's body, written as loops.

The printed body is one straight line of some three hundred effects. Here the same effects are written once per
kind (start a load of `w`, wait for it, compute a block, send it, receive one, ...) and strung together by recursion
over the list of destinations, so that each kind can be proved once. `body_eq` states that the printed body is this
program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.A2A

open Cert.KernelIdeal Cert.KernelIdeal.Gen

open Idealize.ShloMosaic
open Idealize.ShloMosaic.TcCoe
open Idealize.SL Idealize.SL.Sem

variable {F : FTy → Type} [FloatOps F]

/-! ## The buffers and semaphores the body works on -/

/-- The staged block of `x`, -/
abbrev xM : Memref sig .tc .vmem S256x4096 .fp8e5m2 := Memref.whole cc0_stg0_0
/-- the whole of `w` in HBM, -/
abbrev wM : Memref sig .tc .hbm S4096x8192 .fp8e5m2 := Memref.whole main_arg1
/-- the two scales, -/
abbrev sxM : Memref sig .tc .smem S1 .f32 := Memref.whole cc0_stg1_0
abbrev swM : Memref sig .tc .smem S1 .f32 := Memref.whole cc0_stg2_0
/-- the staged result, -/
abbrev oM : Memref sig .tc .vmem S4096x512 .f32 := Memref.whole cc0_stg3_0
/-- the three slots into which column blocks of `w` are loaded, -/
abbrev bM : Memref sig .tc .vmem S3x4096x512 .fp8e5m2 := Memref.whole cc0_scratch0
/-- the sixteen computed blocks, one per destination, -/
abbrev yM : Memref sig .tc .vmem S16x256x512 .bf16 := Memref.whole cc0_scratch1
/-- the sixteen received blocks, one per sender. -/
abbrev rM : Memref sig .tc .vmem S16x256x512 .bf16 := Memref.whole cc0_scratch2

/-- The runtime's barrier semaphore. -/
abbrev barS : Sem sig := (SemArray.scalar (sig.barrier 0 rfl) : Sems sig S_).sem

theorem slot_inb : ∀ s : Fin 3, ∀ a, (![s.val, 0, 0] : Fin 3 → Nat) a + S1x4096x512.size a ≤ S3x4096x512.size a := by decide
theorem slotS_inb : ∀ s : Fin 3, ∀ a, (![s.val] : Fin 1 → Nat) a + S1.size a ≤ S3.size a := by decide
theorem sem16_inb : ∀ r : Fin 15, ∀ a, (![1 + r.val] : Fin 1 → Nat) a + S1.size a ≤ S16.size a := by decide
theorem slot_words : ∀ s : Fin 3,
    (Rect.unit (s := S3x4096x512) ![s.val, 0, 0] S1x4096x512.size (slot_inb s)).WholeWords (EltTy.packing .fp8e5m2)
  | 0 => wordsfp8e5m2_S3x4096x512_S1x4096x512_0_0_0
  | 1 => wordsfp8e5m2_S3x4096x512_S1x4096x512_1_0_0
  | 2 => wordsfp8e5m2_S3x4096x512_S1x4096x512_2_0_0

/-- The rectangle of slot `s` in the load buffer, -/
abbrev slotR (s : Fin 3) : Rect S3x4096x512 := Rect.unit (s := S3x4096x512) ![s.val, 0, 0] S1x4096x512.size (slot_inb s)
/-- the slot as a matrix, -/
abbrev slotM (s : Fin 3) : Memref sig .tc .vmem S4096x512 .fp8e5m2 :=
  (bM.slice (slotR s) (fun _ => rfl)).squeeze S4096x512 squeezes_S1x4096x512_S4096x512
/-- and the semaphore its loads complete on. -/
abbrev ldS (s : Fin 3) : DmaSem sig :=
  ((cc0_scratch3.slice (Rect.unit (s := S3) ![s.val] S1.size (slotS_inb s))).squeeze S_ squeezes_S1_S_).sem

/-- The column block of `w` for the destination at distance `r` from `c`. -/
abbrev wcM (c : Dev nD) (r : Fin 16) : Memref sig .tc .hbm S4096x512 .fp8e5m2 :=
  wM.slice (Rect.unit (s := S4096x8192) (k0_off1 c (BitVec.ofNat 32 r.val)) S4096x512.size (k0_off1_inb c r)) (fun _ => rfl)

/-- The word for distance `1 + r`. -/
abbrev dW (r : Fin 15) : BitVec 32 := BitVec.ofNat 32 (1 + r.val)

/-- The plane of the device at distance `1 + r` in a stack of sixteen blocks, as a load or store names it, -/
abbrev rowR (c : Dev nD) (r : Fin 15) : Rect S16x256x512 := Rect.unit (s := S16x256x512) (k0_off2 c (dW r)) S1x256x512.size (k0_off2_inb c r)
/-- as a transfer names it in the computed blocks, -/
abbrev yRowM (c : Dev nD) (r : Fin 15) : Memref sig .tc .vmem S256x512 .bf16 :=
  (yM.slice (Rect.unit (s := S16x256x512) (k0_off5 c (dW r)) S1x256x512.size (k0_off5_inb c r)) (fun _ => rfl)).squeeze S256x512 squeezes_S1x256x512_S256x512
/-- and in the received ones. -/
abbrev rRowM (c : Dev nD) (r : Fin 15) : Memref sig .tc .vmem S256x512 .bf16 :=
  (rM.slice (Rect.unit (s := S16x256x512) (k0_off5 c (dW r)) S1x256x512.size (k0_off5_inb c r)) (fun _ => rfl)).squeeze S256x512 squeezes_S1x256x512_S256x512
/-- The sender's own plane in the received blocks. -/
abbrev rMeM (c : Dev nD) : Memref sig .tc .vmem S256x512 .bf16 :=
  (rM.slice (Rect.unit (s := S16x256x512) (k0_off4 c) S1x256x512.size (k0_off4_inb c)) (fun _ => rfl)).squeeze S256x512 squeezes_S1x256x512_S256x512

/-- The semaphore on which the send at distance `1 + r` completes, -/
abbrev sdS (r : Fin 15) : DmaSem sig :=
  ((cc0_scratch4.slice (Rect.unit (s := S16) ![1 + r.val] S1.size (sem16_inb r))).squeeze S_ squeezes_S1_S_).sem
/-- the one on the destination that `c`'s block is counted on, -/
abbrev rvMeS (c : Dev nD) : DmaSem sig :=
  ((cc0_scratch5.slice (Rect.unit (s := S16) (k0_off3 c) S1.size (k0_off3_inb c))).squeeze S_ squeezes_S1_S_).sem
/-- and the one `c` waits on for the block of the device at distance `1 + r`. -/
abbrev rvS (c : Dev nD) (r : Fin 15) : DmaSem sig :=
  ((cc0_scratch5.slice (Rect.unit (s := S16) (k0_off7 c (dW r)) S1.size (k0_off7_inb c r))).squeeze S_ squeezes_S1_S_).sem

/-- The device that the barrier's signal number `r` goes to, as the program computes it. -/
def sigDev (c : Dev nD) : Fin 15 → Dev nD
  | 0 => ⟨k0_dev1 c, k0_dev1_lt c⟩ | 1 => ⟨k0_dev2 c, k0_dev2_lt c⟩ | 2 => ⟨k0_dev3 c, k0_dev3_lt c⟩ | 3 => ⟨k0_dev4 c, k0_dev4_lt c⟩
  | 4 => ⟨k0_dev5 c, k0_dev5_lt c⟩ | 5 => ⟨k0_dev6 c, k0_dev6_lt c⟩ | 6 => ⟨k0_dev7 c, k0_dev7_lt c⟩ | 7 => ⟨k0_dev8 c, k0_dev8_lt c⟩
  | 8 => ⟨k0_dev9 c, k0_dev9_lt c⟩ | 9 => ⟨k0_dev10 c, k0_dev10_lt c⟩ | 10 => ⟨k0_dev11 c, k0_dev11_lt c⟩ | 11 => ⟨k0_dev12 c, k0_dev12_lt c⟩
  | 12 => ⟨k0_dev13 c, k0_dev13_lt c⟩ | 13 => ⟨k0_dev14 c, k0_dev14_lt c⟩ | 14 => ⟨k0_dev15 c, k0_dev15_lt c⟩

/-- The device that the block at distance `1 + r` is sent to, as the program computes it. -/
def sendDev (c : Dev nD) : Fin 15 → Dev nD
  | 7 => ⟨k0_dev16 c, k0_dev16_lt c⟩ | 8 => ⟨k0_dev17 c, k0_dev17_lt c⟩ | 6 => ⟨k0_dev18 c, k0_dev18_lt c⟩ | 9 => ⟨k0_dev19 c, k0_dev19_lt c⟩
  | 5 => ⟨k0_dev20 c, k0_dev20_lt c⟩ | 10 => ⟨k0_dev21 c, k0_dev21_lt c⟩ | 4 => ⟨k0_dev22 c, k0_dev22_lt c⟩ | 11 => ⟨k0_dev23 c, k0_dev23_lt c⟩
  | 3 => ⟨k0_dev24 c, k0_dev24_lt c⟩ | 12 => ⟨k0_dev25 c, k0_dev25_lt c⟩ | 2 => ⟨k0_dev26 c, k0_dev26_lt c⟩ | 13 => ⟨k0_dev27 c, k0_dev27_lt c⟩
  | 1 => ⟨k0_dev28 c, k0_dev28_lt c⟩ | 14 => ⟨k0_dev29 c, k0_dev29_lt c⟩ | 0 => ⟨k0_dev30 c, k0_dev30_lt c⟩

/-! ## The effects, one kind at a time -/

/-- Signal the barrier of each device listed. -/
def signals (c : Dev nD) : List (Fin 15) → Prog (TpuEff nD τ sig (Elt F) Λ₀ .tc) PUnit
  | [] => pure ⟨⟩
  | r :: l => do semSignalWord (sigDev c r) barS 1#32; signals c l

/-- Start loading the column block at distance `r` into slot `s`. -/
def startLd (c : Dev nD) (r : Fin 16) (s : Fin 3) : Prog (TpuEff nD τ sig (Elt F) Λ₀ .tc) PUnit :=
  Prog.lift (.enqueueDma (wcM c r) (.here (slotM s)) (.dma (ldS s)) ((Memref.isWhole_whole main_arg1).wordExact_slice rfl _ (k0_off1_wordsfp8e5m2 c r))
    (((Memref.isWhole_whole cc0_scratch0).wordExact_slice rfl _ (slot_words s)).reshape _ _) ⟨Or.inl rfl, trivial⟩)

/-- Wait for it. -/
def waitLd (c : Dev nD) (r : Fin 16) (s : Fin 3) : Prog (TpuEff nD τ sig (Elt F) Λ₀ .tc) PUnit :=
  Prog.lift (.waitDma2 (ldS s) (wcM c r) (slotM s) ((Memref.isWhole_whole main_arg1).wordExact_slice rfl _ (k0_off1_wordsfp8e5m2 c r))
    (((Memref.isWhole_whole cc0_scratch0).wordExact_slice rfl _ (slot_words s)).reshape _ _))

/-- Read slot `s`. -/
def readLd (s : Fin 3) : Prog (TpuEff nD τ sig (Elt F) Λ₀ .tc) (Vec F S1x4096x512 .fp8e5m2) :=
  Prog.lift (.load bM (slotR s).toLoadRect (View.loadsAt_vmem h_S1x4096x512))

/-- Store the block computed for the device at distance `1 + r` and send it there. -/
def sendBlk (c : Dev nD) (s : F .f32) (x : FVec F S256x4096 .bf16) (w : Vec F S1x4096x512 .fp8e5m2) (r : Fin 15) : Prog (TpuEff nD τ sig (Elt F) Λ₀ .tc) PUnit := do
  let _ : Vec F S1x256x512 .bf16 ← Prog.lift (.load yM (rowR c r).toLoadRect (View.loadsAt_vmem h_S1x256x512))
  Prog.lift (.store yM (rowR c r) (k0_pay3 s x w) Finset.univ
    (View.stores_vmem h_S1x256x512 ((Memref.isWhole_whole cc0_scratch1).storeExact_slice rfl _ (k0_off2_packedbf16 c r)) (fun _ => rfl)) (.inl rfl))
  Prog.lift (.enqueueDma (yRowM c r) (.remote (Dev.tc (sendDev c r)) (rMeM c) (.dma (sdS r))) (.dma (rvMeS c))
    (((Memref.isWhole_whole cc0_scratch1).wordExact_slice rfl _ (k0_off5_wordsbf16 c r)).reshape _ _)
    (((Memref.isWhole_whole cc0_scratch2).wordExact_slice rfl _ (k0_off4_wordsbf16 c)).reshape _ _) ⟨⟨rfl, Or.inl rfl⟩, trivial⟩)

/-- Store the device's own block straight into the result. -/
def ownBlk (c : Dev nD) (s : F .f32) (x : FVec F S256x4096 .bf16) (w : Vec F S1x4096x512 .fp8e5m2) : Prog (TpuEff nD τ sig (Elt F) Λ₀ .tc) PUnit := do
  let _ : Vec F S256x512 .f32 ← Prog.lift (.load oM (Rect.unit (s := S4096x512) (k0_off6 c) S256x512.size (k0_off6_inb c)).toLoadRect (View.loadsAt_vmem h_S256x512))
  Prog.lift (.store oM (Rect.unit (s := S4096x512) (k0_off6 c) S256x512.size (k0_off6_inb c)) (k0_pay27 s x w) Finset.univ
    (View.stores_vmem_bits_univ h_S256x512 rfl) (.inl rfl))

/-- One step: wait for the columns at distance `1 + r` in slot `s`, compute the block, send it. -/
def sendStep (c : Dev nD) (s : F .f32) (x : FVec F S256x4096 .bf16) (r : Fin 15) (sl : Fin 3) : Prog (TpuEff nD τ sig (Elt F) Λ₀ .tc) PUnit := do
  waitLd c (Fin.succ r) sl
  let w ← readLd sl
  sendBlk c s x w r

/-- The last step: the device's own block. -/
def ownStep (c : Dev nD) (s : F .f32) (x : FVec F S256x4096 .bf16) (sl : Fin 3) : Prog (TpuEff nD τ sig (Elt F) Λ₀ .tc) PUnit := do
  waitLd c 0 sl
  let w ← readLd sl
  ownBlk c s x w

/-- The steps from the one at distance `1 + a` on: the columns at `1 + a` and `1 + b` are on their way to slots `sa` and
    `sb`, slot `sc` is free, and the list holds the distances after those two. -/
def steps (c : Dev nD) (s : F .f32) (x : FVec F S256x4096 .bf16) : Fin 15 → Fin 15 → Fin 3 → Fin 3 → Fin 3 → List (Fin 15) → Prog (TpuEff nD τ sig (Elt F) Λ₀ .tc) PUnit
  | a, b, sa, sb, sc, [] => do startLd c 0 sc; sendStep c s x a sa; sendStep c s x b sb; ownStep c s x sc
  | a, b, sa, sb, sc, n :: l => do startLd c (Fin.succ n) sc; sendStep c s x a sa; steps c s x b n sb sc sa l

/-- Wait for the block of each device listed and store it into the result. -/
def recvs (c : Dev nD) : List (Fin 15) → Prog (TpuEff nD τ sig (Elt F) Λ₀ .tc) PUnit
  | [] => pure ⟨⟩
  | r :: l => do
    Prog.lift (.waitDma2 (rvS c r) (yRowM c r) (rRowM c r)
      (((Memref.isWhole_whole cc0_scratch1).wordExact_slice rfl _ (k0_off5_wordsbf16 c r)).reshape _ _)
      (((Memref.isWhole_whole cc0_scratch2).wordExact_slice rfl _ (k0_off5_wordsbf16 c r)).reshape _ _))
    let v : Vec F S1x256x512 .bf16 ← Prog.lift (.load rM (rowR c r).toLoadRect (View.loadsAt_vmem h_S1x256x512))
    let _ : Vec F S256x512 .f32 ← Prog.lift (.load oM (Rect.unit (s := S4096x512) (k0_off8 c (dW r)) S256x512.size (k0_off8_inb c r)).toLoadRect (View.loadsAt_vmem h_S256x512))
    Prog.lift (.store oM (Rect.unit (s := S4096x512) (k0_off8 c (dW r)) S256x512.size (k0_off8_inb c r)) (k0_pay28 v) Finset.univ
      (View.stores_vmem_bits_univ h_S256x512 rfl) (.inl rfl))
    recvs c l

/-- Wait for each send listed to have left. -/
def drains (c : Dev nD) : List (Fin 15) → Prog (TpuEff nD τ sig (Elt F) Λ₀ .tc) PUnit
  | [] => pure ⟨⟩
  | r :: l => do
    Prog.lift (.waitDma2 (sdS r) (rMeM c) (yRowM c r)
      (((Memref.isWhole_whole cc0_scratch2).wordExact_slice rfl _ (k0_off4_wordsbf16 c)).reshape _ _)
      (((Memref.isWhole_whole cc0_scratch1).wordExact_slice rfl _ (k0_off5_wordsbf16 c r)).reshape _ _))
    drains c l

/-- The order of the signals, -/
abbrev sigL : List (Fin 15) := [0, 1, 2, 3, 4, 5, 6, 7, 8, 9, 10, 11, 12, 13, 14]
/-- of the sends after the first two, -/
abbrev restL : List (Fin 15) := [6, 9, 5, 10, 4, 11, 3, 12, 2, 13, 1, 14, 0]
/-- of all sends, -/
abbrev sendL : List (Fin 15) := 7 :: 8 :: restL
/-- and of the receptions. -/
abbrev recvL : List (Fin 15) := [7, 6, 8, 5, 9, 4, 10, 3, 11, 2, 12, 1, 13, 0, 14]

/-- The body as loops. -/
def body : Prog (TpuEff nD τ sig (Elt F) Λ₀ .tc) PUnit := do
  let c : Dev nD ← Prog.lift .deviceId
  signals c sigL
  semWaitWord barS 15#32
  let s0 : Elt F .f32 ← smemLoad sxM (Rect.unit (s := S1) ![0] S1.size inb_S1_S1_0) numel1_S1 rfl
  let s1 : Elt F .f32 ← smemLoad swM (Rect.unit (s := S1) ![0] S1.size inb_S1_S1_0) numel1_S1 rfl
  let x : Vec F S256x4096 .fp8e5m2 ← Prog.lift (.load xM (Rect.unit (s := S256x4096) ![0, 0] S256x4096.size inb_S256x4096_S256x4096_0_0).toLoadRect (View.loadsAt_vmem h_S256x4096))
  startLd c 8 0
  startLd c 9 1
  steps c (k0_pay1 s0 s1) (k0_pay2 x) 7 8 0 1 2 restL
  recvs c recvL
  drains c sendL

set_option maxHeartbeats 0 in
set_option maxRecDepth 65536 in
/-- The printed body is these loops. -/
theorem body_eq : cc0_body (F := F) xM (Memref.isWhole_whole _) wM (Memref.isWhole_whole _) sxM (Memref.isWhole_whole _) swM (Memref.isWhole_whole _)
    oM (Memref.isWhole_whole _) bM (Memref.isWhole_whole _) yM (Memref.isWhole_whole _) rM (Memref.isWhole_whole _)
    cc0_scratch3 cc0_scratch4 cc0_scratch5 = body := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel,
    body, signals, steps, sendStep, ownStep, sendBlk, ownBlk, startLd, waitLd, readLd, recvs, drains,
    semSignalWord, semWaitWord, Prog.lift, Prog.bind_op, Prog.bind_ret, Prog.pure_eq_ret]
  rfl

end Cert.A2A

end
-- ==== Proof.Geometry.lean ====
/-
Which devices, planes, rows and columns the kernel names.

The program computes its device numbers, offsets and semaphores with 32-bit words. Here each is stated in closed form:
everything at distance `1 + r` belongs to the device `pr c r = (c + 1 + r) mod 16`.
-/
module

public import proofs.«01_k».proof.Proof.Body
public import Idealize.ShloMosaic.Lib.Pipeline.Value
public import Idealize.ShloMosaic.Lib.Writes
public import Idealize.ShloMosaic.Lib.ViewIndex

@[expose] public section

noncomputable section

namespace Cert.A2A

open Cert.KernelIdeal Cert.KernelIdeal.Gen

open Idealize.ShloMosaic
open Idealize.ShloMosaic.TcCoe
open Idealize.SL Idealize.SL.Sem

variable {F : FTy → Type} [FloatOps F]

/-! ## The peers -/

/-- The device at distance `1 + r` from `c`. -/
def pr (c : Dev nD) (r : Fin 15) : Dev nD := ⟨(c.val + 1 + r.val) % 16, Nat.mod_lt _ (by decide)⟩

theorem pr_rev : ∀ (c : Dev nD) (r : Fin 15), pr (pr c r) (Fin.rev r) = c := by decide +kernel
theorem pr_ne : ∀ (c : Dev nD) (r : Fin 15), pr c r ≠ c := by decide +kernel
theorem pr_inj : ∀ (c : Dev nD) (r r' : Fin 15), pr c r = pr c r' → r = r' := by decide +kernel
theorem pr_surj : ∀ (c p : Dev nD), p ≠ c → ∃ r, pr c r = p := by decide +kernel
theorem pr_inj_left : ∀ (r : Fin 15) (c c' : Dev nD), pr c r = pr c' r → c = c' := by decide +kernel

/-- Going to the device at distance `1 + r` is a permutation of the devices. -/
def shift (r : Fin 15) : Dev nD ≃ Dev nD where
  toFun c := pr c r
  invFun c := pr c (Fin.rev r)
  left_inv c := pr_rev c r
  right_inv c := by have h := pr_rev c (Fin.rev r); rwa [Fin.rev_rev] at h

theorem sigDev_eq : ∀ (c : Dev nD) (r : Fin 15), sigDev c r = pr c r := by decide +kernel
theorem sendDev_eq : ∀ (c : Dev nD) (r : Fin 15), sendDev c r = pr c r := by decide +kernel

/-! ## The semaphores -/

theorem sdS_val : ∀ r : Fin 15, (sdS r).val = 8 + r.val := by decide +kernel
theorem rvMeS_val : ∀ p : Dev nD, (rvMeS p).val = 23 + p.val := by decide +kernel
theorem ldS_val : ∀ s : Fin 3, (ldS s).val = 4 + s.val := by decide +kernel
theorem rvS_eq : ∀ (c : Dev nD) (r : Fin 15), rvS c r = rvMeS (pr c r) := by decide +kernel

/-! ## The offsets -/

theorem off1_eq : ∀ (c : Dev nD) (r : Fin 16), k0_off1 c (BitVec.ofNat 32 r.val) = ![0, 512 * ((c.val + r.val) % 16)] := by decide +kernel
theorem off2_eq : ∀ (c : Dev nD) (r : Fin 15), k0_off2 c (dW r) = ![(pr c r).val, 0, 0] := by decide +kernel
theorem off4_eq : ∀ c : Dev nD, k0_off4 c = ![c.val, 0, 0] := by decide +kernel
theorem off5_eq : ∀ (c : Dev nD) (r : Fin 15), k0_off5 c (dW r) = ![(pr c r).val, 0, 0] := by decide +kernel
theorem off6_eq : ∀ c : Dev nD, k0_off6 c = ![256 * c.val, 0] := by decide +kernel
theorem off8_eq : ∀ (c : Dev nD) (r : Fin 15), k0_off8 c (dW r) = ![256 * (pr c r).val, 0] := by decide +kernel

/-! ## The planes of a stack of sixteen blocks -/

theorem plane_inb : ∀ p : Dev nD, ∀ a, (![p.val, 0, 0] : Fin 3 → Nat) a + S1x256x512.size a ≤ S16x256x512.size a := by decide
/-- Plane `p`. -/
abbrev planeR (p : Dev nD) : Rect S16x256x512 := Rect.unit (s := S16x256x512) ![p.val, 0, 0] S1x256x512.size (plane_inb p)
/-- Plane `p`'s elements. -/
def planeS (p : Dev nD) : Finset S16x256x512.Idx := (planeR p).set

theorem mem_planeS (p : Dev nD) (i : S16x256x512.Idx) : i ∈ planeS p ↔ (i 0).val = p.val := by
  unfold planeS
  rw [Rect.mem_set_unit]
  have h1 : (i 1).val < 256 := (i 1).isLt
  have h2 : (i 2).val < 512 := (i 2).isLt
  constructor
  · intro h
    have h0 : (![p.val, 0, 0] : Fin 3 → Nat) 0 ≤ (i 0).val ∧ (i 0).val < (![p.val, 0, 0] : Fin 3 → Nat) 0 + S1x256x512.size 0 := h 0
    have e0 : (![p.val, 0, 0] : Fin 3 → Nat) 0 = p.val := rfl
    have e1 : S1x256x512.size 0 = 1 := rfl
    omega
  · intro h a
    match a with
    | ⟨0, _⟩ => exact ⟨Nat.le_of_eq h.symm, by show (i 0).val < p.val + 1; omega⟩
    | ⟨1, _⟩ => exact ⟨Nat.zero_le _, by show (i 1).val < 0 + 256; omega⟩
    | ⟨2, _⟩ => exact ⟨Nat.zero_le _, by show (i 2).val < 0 + 512; omega⟩

theorem planeS_disjoint {p q : Dev nD} (h : p ≠ q) : Disjoint (planeS p) (planeS q) := by
  rw [Finset.disjoint_left]
  intro i hp hq
  exact h (Fin.ext (((mem_planeS p i).mp hp).symm.trans ((mem_planeS q i).mp hq)))

theorem rowR_eq (c : Dev nD) (r : Fin 15) : rowR c r = planeR (pr c r) := Rect.unit_congr (off2_eq c r) _ _
theorem rowR_set (c : Dev nD) (r : Fin 15) : (rowR c r).set = planeS (pr c r) := by
  show _ = (planeR (pr c r)).set
  rw [← rowR_eq]
theorem off5R_eq (c : Dev nD) (r : Fin 15) :
    Rect.unit (s := S16x256x512) (k0_off5 c (dW r)) S1x256x512.size (k0_off5_inb c r) = planeR (pr c r) := Rect.unit_congr (off5_eq c r) _ _
theorem off4R_eq (c : Dev nD) :
    Rect.unit (s := S16x256x512) (k0_off4 c) S1x256x512.size (k0_off4_inb c) = planeR c := Rect.unit_congr (off4_eq c) _ _

/-- Plane `p` of the computed blocks, as a matrix, -/
abbrev yPlM (p : Dev nD) : Memref sig .tc .vmem S256x512 .bf16 :=
  (yM.slice (planeR p) (fun _ => rfl)).squeeze S256x512 squeezes_S1x256x512_S256x512
/-- of the received ones. -/
abbrev rPlM (p : Dev nD) : Memref sig .tc .vmem S256x512 .bf16 :=
  (rM.slice (planeR p) (fun _ => rfl)).squeeze S256x512 squeezes_S1x256x512_S256x512

theorem yRowM_eq (c : Dev nD) (r : Fin 15) : yRowM c r = yPlM (pr c r) := by
  unfold yRowM yPlM
  exact congrArg (fun m : Memref sig .tc .vmem S1x256x512 .bf16 => m.squeeze S256x512 squeezes_S1x256x512_S256x512)
    (Memref.slice_unit_congr yM (off5_eq c r) _ _ (fun _ => rfl) (fun _ => rfl))
theorem rRowM_eq (c : Dev nD) (r : Fin 15) : rRowM c r = rPlM (pr c r) := by
  unfold rRowM rPlM
  exact congrArg (fun m : Memref sig .tc .vmem S1x256x512 .bf16 => m.squeeze S256x512 squeezes_S1x256x512_S256x512)
    (Memref.slice_unit_congr rM (off5_eq c r) _ _ (fun _ => rfl) (fun _ => rfl))
theorem rMeM_eq (c : Dev nD) : rMeM c = rPlM c := by
  unfold rMeM rPlM
  exact congrArg (fun m : Memref sig .tc .vmem S1x256x512 .bf16 => m.squeeze S256x512 squeezes_S1x256x512_S256x512)
    (Memref.slice_unit_congr rM (off4_eq c) _ _ (fun _ => rfl) (fun _ => rfl))

theorem yPlM_set (p : Dev nD) : ((yPlM p).view.set : Finset S16x256x512.Idx) = planeS p := by
  exact (View.set_reshape (yM.slice (planeR p) (fun _ => rfl)).view _).trans (View.set_slice_whole cc0_scratch1 (planeR p))
theorem rPlM_set (p : Dev nD) : ((rPlM p).view.set : Finset S16x256x512.Idx) = planeS p := by
  exact (View.set_reshape (rM.slice (planeR p) (fun _ => rfl)).view _).trans (View.set_slice_whole cc0_scratch2 (planeR p))

theorem yRowM_set (c : Dev nD) (r : Fin 15) : ((yRowM c r).view.set : Finset S16x256x512.Idx) = planeS (pr c r) := by
  refine Eq.trans ?_ (yPlM_set (pr c r))
  exact Memref.set_squeeze_slice_unit_eq_of_eq yM _ _ _ _ _ _ _ (off5_eq c r)
theorem rMeM_set (c : Dev nD) : ((rMeM c).view.set : Finset S16x256x512.Idx) = planeS c := by
  refine Eq.trans ?_ (rPlM_set c)
  exact Memref.set_squeeze_slice_unit_eq_of_eq rM _ _ _ _ _ _ _ (off4_eq c)

/-! ## The row blocks of the result and the column blocks of `w` -/

theorem orow_inb : ∀ p : Dev nD, ∀ a, (![256 * p.val, 0] : Fin 2 → Nat) a + S256x512.size a ≤ S4096x512.size a := by decide
/-- Row block `p` of the result. -/
abbrev orowR (p : Dev nD) : Rect S4096x512 := Rect.unit (s := S4096x512) ![256 * p.val, 0] S256x512.size (orow_inb p)
theorem wcol_inb : ∀ q : Dev nD, ∀ a, (![0, 512 * q.val] : Fin 2 → Nat) a + S4096x512.size a ≤ S4096x8192.size a := by decide
/-- Column block `q` of `w`. -/
abbrev wcolM (q : Dev nD) : Memref sig .tc .hbm S4096x512 .fp8e5m2 :=
  wM.slice (Rect.unit (s := S4096x8192) ![0, 512 * q.val] S4096x512.size (wcol_inb q)) (fun _ => rfl)

theorem wcM_succ (c : Dev nD) (r : Fin 15) : wcM c (Fin.succ r) = wcolM (pr c r) := by
  unfold wcM wcolM
  refine Memref.slice_unit_congr wM ((off1_eq c (Fin.succ r)).trans ?_) _ _ (fun _ => rfl) (fun _ => rfl)
  have : (c.val + (Fin.succ r).val) % 16 = (pr c r).val := by
    unfold pr; rw [Fin.val_succ]; show _ = (c.val + 1 + r.val) % 16; congr 1; omega
  rw [this]
theorem wcM_zero (c : Dev nD) : wcM c 0 = wcolM c := by
  unfold wcM wcolM
  refine Memref.slice_unit_congr wM ((off1_eq c 0).trans ?_) _ _ (fun _ => rfl) (fun _ => rfl)
  have : (c.val + (0 : Fin 16).val) % 16 = c.val := Nat.mod_eq_of_lt c.isLt
  rw [this]

/-- The device whose column block lies at distance `r`: `c` itself at 0. -/
def colOf (c : Dev nD) : Fin 16 → Dev nD := Fin.cons c (pr c)
theorem wcM_eq (c : Dev nD) (r : Fin 16) : wcM c r = wcolM (colOf c r) := by
  refine Fin.cases ?_ (fun r => ?_) r
  · exact wcM_zero c
  · exact wcM_succ c r

end Cert.A2A

end
-- ==== Proof.Contents.lean ====
/-
What each block holds.

From the memory at launch: the scale and the rows of `x` a device works with, the column blocks of `w`, the block device
`p` computes for device `q` (`blk`), and the result of a device (`outAt`), whose row block `p` is what device `p`
computed for it.
-/
module

public import proofs.«01_k».proof.Proof.Geometry

@[expose] public section

noncomputable section

namespace Cert.A2A

open Cert.KernelIdeal Cert.KernelIdeal.Gen

open Idealize.ShloMosaic
open Idealize.ShloMosaic.TcCoe
open Idealize.SL Idealize.SL.Sem

variable {F : FTy → Type} [FloatOps F]
variable (m : (ℓ : Loc nD τ sig) → Buf (Elt F) ℓ)

/-! ## The operands -/

/-- Device `c`'s rows of `x` as staged, -/
def xstg (c : Dev nD) : Vec F S256x4096 .fp8e5m2 := (win0_0.blk t0_0).view.read (Elt F) (m ((c : Thread nD τ).loc main_arg0))
/-- the scale of `x`, -/
def sxstg (c : Dev nD) : Vec F S1 .f32 := (win0_1.blk t0_0).view.read (Elt F) (m ((c : Thread nD τ).loc main_arg2))
/-- the scale of `w`. -/
def swstg (c : Dev nD) : Vec F S1 .f32 := (win0_2.blk t0_0).view.read (Elt F) (m ((c : Thread nD τ).loc main_arg3))

abbrev rX : Rect S256x4096 := Rect.unit (s := S256x4096) ![0, 0] S256x4096.size inb_S256x4096_S256x4096_0_0
abbrev rS : Rect S1 := Rect.unit (s := S1) ![0] S1.size inb_S1_S1_0
/-- The one index of a scale's word. -/
abbrev iS : rS.shape.Idx := Shape.Idx.first (numel1_S1.symm ▸ Nat.one_pos)

/-- The product of the two scales on device `c`. -/
def sV (c : Dev nD) : F .f32 := k0_pay1 ((sxM.access rS).read (Elt F) (sxstg m c) iS) ((swM.access rS).read (Elt F) (swstg m c) iS)
/-- Device `c`'s rows of `x`, widened. -/
def xV (c : Dev nD) : FVec F S256x4096 .bf16 := k0_pay2 (xM.view.readAt (Elt F) rX.toLoadRect (xstg m c))

/-- Column block `q` of `w` on device `c`, -/
def wcol (c q : Dev nD) : Vec F S4096x512 .fp8e5m2 := (wcolM q).view.read (Elt F) (m ((c : Thread nD τ).loc main_arg1))
theorem cast_w : S4096x512.ShapeCasts S1x4096x512 := by decide
theorem cast_w' : S1x4096x512.ShapeCasts S4096x512 := by decide
/-- as it is read from a slot. -/
def wld (c q : Dev nD) : Vec F S1x4096x512 .fp8e5m2 := shapeCast S1x4096x512 (wcol m c q) cast_w

/-! ## The blocks -/

/-- The block device `p` computes for device `q`, -/
def blk (p q : Dev nD) : Vec F S1x256x512 .bf16 := k0_pay3 (sV m p) (xV m p) (wld m p q)
/-- the one it computes for itself, -/
def ownB (c : Dev nD) : Vec F S256x512 .f32 := k0_pay27 (sV m c) (xV m c) (wld m c c)
/-- row block `p` of the result of device `c`, -/
def outBlk (c p : Dev nD) : Vec F S256x512 .f32 := if p = c then ownB m c else k0_pay28 (blk m p c)

/-- the row block and the index in it of an element of the result, -/
def rowBlk (i : S4096x512.Idx) : Dev nD := ⟨(i 0).val / 256, by have h : (i 0).val < 4096 := (i 0).isLt; show _ < 16; omega⟩
def inBlk (i : S4096x512.Idx) : S256x512.Idx := fun a => match a with
  | ⟨0, _⟩ => ⟨(i 0).val % 256, Nat.mod_lt _ (by decide)⟩
  | ⟨1, _⟩ => ⟨(i 1).val, (i 1).isLt⟩
/-- and the result. -/
def outAt (c : Dev nD) : Vec F S4096x512 .f32 := fun i => outBlk m c (rowBlk i) (inBlk i)

/-! ## A slot after a load -/

/-- A slot read after a column block of `w` was loaded into it. -/
theorem read_slot (s : Fin 3) (c q : Dev nD) (f : S3x4096x512.Idx → Elt F .fp8e5m2) :
    bM.view.readAt (Elt F) (slotR s).toLoadRect ((slotM s).view.write (Elt F) f (wcol m c q) Finset.univ) = wld m c q := by
  have a1 := Memref.read_squeeze_slice (Val := Elt F) bM (slotR s) (fun _ => rfl) squeezes_S1x4096x512_S4096x512 cast_w'
    ((slotM s).view.write (Elt F) f (wcol m c q) Finset.univ)
  rw [View.read_write_univ] at a1
  exact (shapeCast_shapeCast _ cast_w' cast_w).symm.trans
    (congrArg (fun v : S4096x512.Idx → Elt F .fp8e5m2 => shapeCast S1x4096x512 v cast_w) a1.symm)

/-! ## A plane -/

theorem cast_p : S1x256x512.ShapeCasts S256x512 := by decide
theorem cast_p' : S256x512.ShapeCasts S1x256x512 := by decide

/-- What plane `p` of a stack of blocks holds. -/
def plane (p : Dev nD) (f : S16x256x512.Idx → Elt F .bf16) : Vec F S1x256x512 .bf16 := yM.view.readAt (Elt F) (planeR p).toLoadRect f

theorem readAt_rowR (c : Dev nD) (r : Fin 15) (f : S16x256x512.Idx → Elt F .bf16) :
    rM.view.readAt (Elt F) (rowR c r).toLoadRect f = plane (pr c r) f := by
  have h : ∀ (off off' : Fin 3 → Nat) (e : off = off') (h1 : ∀ a, off a + S1x256x512.size a ≤ S16x256x512.size a)
      (h2 : ∀ a, off' a + S1x256x512.size a ≤ S16x256x512.size a),
      (rM.view.readAt (Elt F) (Rect.unit (s := S16x256x512) off S1x256x512.size h1).toLoadRect f : S1x256x512.Idx → Elt F .bf16)
        = yM.view.readAt (Elt F) (Rect.unit (s := S16x256x512) off' S1x256x512.size h2).toLoadRect f := by
    intro off off' e h1 h2; subst e; rfl
  exact h _ _ (off2_eq c r) _ _

/-- A block stored in a plane is read back, -/
theorem plane_store (c : Dev nD) (r : Fin 15) (f : S16x256x512.Idx → Elt F .bf16) (v : Vec F S1x256x512 .bf16) :
    plane (pr c r) ((yM.access (rowR c r)).write (Elt F) f v Finset.univ) = v := by
  have h : ∀ (off off' : Fin 3 → Nat) (e : off = off') (h1 : ∀ a, off a + S1x256x512.size a ≤ S16x256x512.size a)
      (h2 : ∀ a, off' a + S1x256x512.size a ≤ S16x256x512.size a),
      (yM.view.readAt (Elt F) (Rect.unit (s := S16x256x512) off' S1x256x512.size h2).toLoadRect
        ((yM.access (Rect.unit (s := S16x256x512) off S1x256x512.size h1)).write (Elt F) f v Finset.univ) : S1x256x512.Idx → Elt F .bf16) = v := by
    intro off off' e h1 h2; subst e
    exact View.read_write_univ (v := yM.access (Rect.unit (s := S16x256x512) off S1x256x512.size h1)) f v
  exact h _ _ (off2_eq c r) _ _

/-- and so is one copied there from another plane. -/
theorem plane_copy (c : Dev nD) (r : Fin 15) (fd fs : S16x256x512.Idx → Elt F .bf16) :
    plane c ((rMeM c).view.write (Elt F) fd ((yRowM c r).view.read (Elt F) fs) Finset.univ) = plane (pr c r) fs := by
  have h : ∀ (o o' p p' : Fin 3 → Nat) (e : o = o') (e' : p = p') (h1 : ∀ a, o a + S1x256x512.size a ≤ S16x256x512.size a)
      (h2 : ∀ a, o' a + S1x256x512.size a ≤ S16x256x512.size a) (h3 : ∀ a, p a + S1x256x512.size a ≤ S16x256x512.size a)
      (h4 : ∀ a, p' a + S1x256x512.size a ≤ S16x256x512.size a),
      (yM.view.readAt (Elt F) (Rect.unit (s := S16x256x512) o' S1x256x512.size h2).toLoadRect
        (((rM.slice (Rect.unit (s := S16x256x512) o S1x256x512.size h1) (fun _ => rfl)).squeeze S256x512 squeezes_S1x256x512_S256x512).view.write (Elt F) fd
          (((yM.slice (Rect.unit (s := S16x256x512) p S1x256x512.size h3) (fun _ => rfl)).squeeze S256x512 squeezes_S1x256x512_S256x512).view.read (Elt F) fs) Finset.univ)
          : S1x256x512.Idx → Elt F .bf16)
        = yM.view.readAt (Elt F) (Rect.unit (s := S16x256x512) p' S1x256x512.size h4).toLoadRect fs := by
    intro o o' p p' e e' h1 h2 h3 h4; subst e; subst e'
    have a1 := Memref.read_squeeze_slice (Val := Elt F) rM (Rect.unit (s := S16x256x512) o S1x256x512.size h1) (fun _ => rfl) squeezes_S1x256x512_S256x512 cast_p
      (((rM.slice (Rect.unit (s := S16x256x512) o S1x256x512.size h1) (fun _ => rfl)).squeeze S256x512 squeezes_S1x256x512_S256x512).view.write (Elt F) fd
          (((yM.slice (Rect.unit (s := S16x256x512) p S1x256x512.size h3) (fun _ => rfl)).squeeze S256x512 squeezes_S1x256x512_S256x512).view.read (Elt F) fs) Finset.univ)
    rw [View.read_write_univ] at a1
    have a2 := Memref.read_squeeze_slice (Val := Elt F) yM (Rect.unit (s := S16x256x512) p S1x256x512.size h3) (fun _ => rfl) squeezes_S1x256x512_S256x512 cast_p fs
    have a3 := congrArg (fun v : S256x512.Idx → Elt F .bf16 => shapeCast S1x256x512 v cast_p') (a1.symm.trans a2)
    exact (shapeCast_shapeCast _ cast_p cast_p').symm.trans (a3.trans (shapeCast_shapeCast _ cast_p cast_p'))
  exact h _ _ _ _ (off4_eq c) (off5_eq c r) _ _ _ _

/-! ## The result, row block by row block -/

/-- The row blocks listed hold what they are to hold. -/
def OutOk (c : Dev nD) (l : List (Dev nD)) (f : S4096x512.Idx → Elt F .f32) : Prop :=
  ∀ i : S4096x512.Idx, rowBlk i ∈ l → f i = outAt m c i

theorem read_out (g : S4096x512.Idx → Elt F .f32) (i : S4096x512.Idx) : oM.view.read (Elt F) g i = g i := rfl

/-- Storing row block `p` changes the elements of that row block, -/
theorem store_row_in (p : Dev nD) (f : S4096x512.Idx → Elt F .f32) (v : Vec F S256x512 .f32) (i : S4096x512.Idx) (hp : rowBlk i = p) :
    ((oM.access (orowR p)).write (Elt F) f v Finset.univ : S4096x512.Idx → Elt F .f32) i = v (inBlk i) := by
  have hp0 : (i 0).val / 256 = p.val := congrArg Fin.val hp
  have hi' : (orowR p).emb (inBlk i) = i := by
    funext a
    match a with
    | ⟨0, _⟩ => exact Fin.ext (by show 256 * p.val + 1 * ((i 0).val % 256) = (i 0).val; omega)
    | ⟨1, _⟩ => exact Fin.ext (by show 0 + 1 * (i 1).val = (i 1).val; omega)
  have h2 := View.read_slice_write_emb (v := oM.view) (Val := Elt F) (orowR p) f v (M := Finset.univ) (x := inBlk i) (Finset.mem_univ _)
  rw [hi'] at h2
  exact (read_out _ i).symm.trans h2

/-- and no others. -/
theorem store_row_out (p : Dev nD) (f : S4096x512.Idx → Elt F .f32) (v : Vec F S256x512 .f32) (i : S4096x512.Idx) (hp : rowBlk i ≠ p) :
    ((oM.access (orowR p)).write (Elt F) f v Finset.univ : S4096x512.Idx → Elt F .f32) i = f i := by
  have h2 := View.read_slice_write_of_not_mem (v := oM.view) (Val := Elt F) (orowR p) f v Finset.univ (y := i) (by
    intro hm
    obtain ⟨x, -, hx⟩ := Finset.mem_map.mp hm
    have h0 : 256 * p.val + 1 * (x 0).val = (i 0).val := congrArg (fun j : S4096x512.Idx => (j 0).val) hx
    have hx0 : (x 0).val < 256 := (x 0).isLt
    exact hp (Fin.ext (by show (i 0).val / 256 = p.val; omega)))
  exact (read_out _ i).symm.trans (h2.trans (read_out f i))

/-- So it adds that row block to those that hold what they are to hold. -/
theorem outOk_store (c p : Dev nD) (l : List (Dev nD)) (off : Fin 2 → Nat) (e : off = ![256 * p.val, 0])
    (h1 : ∀ a, off a + S256x512.size a ≤ S4096x512.size a) (f : S4096x512.Idx → Elt F .f32) (v : Vec F S256x512 .f32) (hv : v = outBlk m c p)
    (hf : OutOk m c l f) :
    OutOk m c (p :: l) ((oM.access (Rect.unit (s := S4096x512) off S256x512.size h1)).write (Elt F) f v Finset.univ) := by
  subst e; subst hv
  intro i hi
  by_cases hp : rowBlk i = p
  · rw [store_row_in p f _ i hp]; unfold outAt; rw [hp]
  · rw [store_row_out p f _ i hp]; exact hf i ((List.mem_cons.mp hi).resolve_left hp)

end Cert.A2A

end
-- ==== Proof.Protocol.lean ====
/-
The exchange as a schedule of duties.

Each device has a barrier cell, fifteen send cells and sixteen receive cells (the one for its own block is never used).
On its barrier each peer pays one unit and hands over the plane of its received blocks that this device will write. On a
receive cell the peer's copy pays the block's credit and hands over the plane with the block in it; on a send cell the
device's own copy pays and hands the sent plane back. Barrier cells lie below receive cells, loads below both, so no wait
is for something that itself waits.
-/
module

public import proofs.«01_k».proof.Proof.Contents
public import Idealize.ShloMosaic.Lib.Transfers
public import Idealize.ShloMosaic.Lib.Rounds
public import Idealize.ShloMosaic.Lib.Pipeline.BigSepL

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds of the exchange, -/
abbrev UB : Type := URounds (GSem nD τ sig) (Fin 15)
/-- beside the launch's own and the local loads' counters. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-! ## The cells -/

abbrev barCell (c : Dev nD) : GSem nD τ sig := ((c : Thread nD τ), .reg barS)
abbrev sndCell (c : Dev nD) (r : Fin 15) : GSem nD τ sig := ((c : Thread nD τ), .dma (sdS r))
abbrev rcvCell (c p : Dev nD) : GSem nD τ sig := ((c : Thread nD τ), .dma (rvMeS p))

/-- A device's cells: its barrier, its sends, its receptions. -/
abbrev CK : Type := Unit ⊕ Fin 15 ⊕ Dev nD
abbrev csem : CK → SemLoc sig
  | .inl _ => .reg barS
  | .inr (.inl r) => .dma (sdS r)
  | .inr (.inr p) => .dma (rvMeS p)
abbrev kcell (ck : Dev nD × CK) : GSem nD τ sig := ((ck.1 : Thread nD τ), csem ck.2)

/-- Which send, and whose block, a semaphore is for. -/
def sdIx (i : DmaSem sig) : Fin 15 := ⟨(i.val - 8) % 15, Nat.mod_lt _ (by decide)⟩
def rvIx (i : DmaSem sig) : Dev nD := ⟨(i.val - 23) % 16, Nat.mod_lt _ (by decide)⟩
theorem sdIx_sdS : ∀ r : Fin 15, sdIx (sdS r) = r := by decide +kernel
theorem rvIx_rvMeS : ∀ p : Dev nD, rvIx (rvMeS p) = p := by decide +kernel

/-- The credit of one block. -/
def N : ℕ := (rPlM (0 : Dev nD)).view.dmaCredit
theorem N_pos : 0 < N := View.dmaCredit_pos (rPlM (0 : Dev nD)).view (by decide)
theorem credit_y (c : Dev nD) (r : Fin 15) : (yRowM c r).view.dmaCredit = N := rfl
theorem credit_r (c : Dev nD) (r : Fin 15) : (rRowM c r).view.dmaCredit = N := rfl
theorem credit_me (c : Dev nD) : (rMeM c).view.dmaCredit = N := rfl

/-! ## What is handed over -/

variable (m : (ℓ : Loc nD τ sig) → Buf (Elt F) ℓ)

/-- Plane `p` of device `c`'s received blocks, -/
def rPts (c p : Dev nD) (f : Buf (Elt F) ((c : Thread nD τ).loc cc0_scratch2)) : sProp 𝕄 :=
  ((c : Thread nD τ).loc cc0_scratch2) ↦[planeS p]{fullShare} f
/-- of its computed ones. -/
def yPts (c p : Dev nD) (f : Buf (Elt F) ((c : Thread nD τ).loc cc0_scratch1)) : sProp 𝕄 :=
  ((c : Thread nD τ).loc cc0_scratch1) ↦[planeS p]{fullShare} f

instance rPts_storable (c p : Dev nD) (f) : BI.Storable (upEmb : UEmb _ 𝕄) (rPts (F := F) c p f) := by unfold rPts; infer_instance
instance yPts_storable (c p : Dev nD) (f) : BI.Storable (upEmb : UEmb _ 𝕄) (yPts (F := F) c p f) := by unfold yPts; infer_instance

/-- The peer at distance `1 + d` hands over its plane for `c`; -/
def barPay (c : Dev nD) (d : Fin 15) : sProp 𝕄 := iprop(∃ f, rPts (pr c d) c f)
/-- a send hands its plane back; -/
def sndPay (c : Dev nD) (r : Fin 15) : sProp 𝕄 := iprop(∃ f, yPts c (pr c r) f)
/-- a reception hands over the plane with `p`'s block for `c` in it. -/
def rcvPay (c p : Dev nD) : sProp 𝕄 := iprop(∃ f, ⌜plane p f = blk m p c⌝ ∗ rPts c p f)

/-! ## The schedule -/

/-- The duties of a device's cells. -/
def dutyOf (c : Dev nD) : SemLoc sig → Finset (Fin 15)
  | .reg s => if s = barS then Finset.univ else ∅
  | .dma i => if 8 ≤ i.val ∧ i.val < 23 then {0} else if 23 ≤ i.val ∧ i.val ≠ 23 + c.val then {0} else ∅

def payOf (c : Dev nD) (d : Fin 15) : SemLoc sig → sProp 𝕄
  | .reg _ => barPay c d
  | .dma i => if 23 ≤ i.val then rcvPay m c (rvIx i) else sndPay c (sdIx i)

def amtOf : SemLoc sig → ℕ
  | .reg _ => 1
  | .dma _ => N

/-- One round of duties on every cell. -/
def sched : Rounds.Schedule (GSem nD τ sig) (Fin 15) 𝕄 where
  duties g r := if r = 0 ∧ g.1.2 = .tc then dutyOf g.1.1 g.2 else ∅
  unitless _ := False
  amount g _ _ := amtOf g.2
  payload g _ d := payOf m g.1.1 d g.2
  amount_pos g _ _ _ := by
    show 0 < amtOf g.2
    cases g.2 with
    | reg _ => exact Nat.one_pos
    | dma _ => exact N_pos

instance sched_payload_storable (g : GSem nD τ sig) (r : ℕ) (d : Fin 15) :
    BI.Storable (upEmb : UEmb _ 𝕄) ((sched (F := F) m).payload g r d) := by
  show BI.Storable upEmb (payOf m g.1.1 d g.2)
  cases g.2 with
  | reg _ => unfold payOf barPay; infer_instance
  | dma i => unfold payOf rcvPay sndPay; dsimp only; split <;> infer_instance

section Sched
variable (c : Dev nD)

theorem duties_zero (sm : SemLoc sig) : (sched (F := F) m).duties ((c : Thread nD τ), sm) 0 = dutyOf c sm := by
  show (if 0 = 0 ∧ ((c : Thread nD τ)).2 = .tc then dutyOf c sm else ∅) = _
  rw [if_pos ⟨rfl, rfl⟩]
theorem duties_bar : (sched (F := F) m).duties (barCell c) 0 = Finset.univ := by
  rw [duties_zero]
  show (if barS = barS then Finset.univ else ∅) = _
  rw [if_pos rfl]
theorem duties_snd (r : Fin 15) : (sched (F := F) m).duties (sndCell c r) 0 = {0} := by
  rw [duties_zero]
  have h := sdS_val r
  exact if_pos ⟨by omega, by have := r.isLt; omega⟩
theorem duties_rcv (p : Dev nD) (hp : p ≠ c) : (sched (F := F) m).duties (rcvCell c p) 0 = {0} := by
  rw [duties_zero]
  have h := rvMeS_val p
  have hv : p.val ≠ c.val := fun e => hp (Fin.ext e)
  exact (if_neg (fun ⟨_, h'⟩ => by omega)).trans (if_pos ⟨by omega, by omega⟩)
theorem duties_rcv_self (r : ℕ) : (sched (F := F) m).duties (rcvCell c c) r = ∅ := by
  show (if r = 0 ∧ _ then dutyOf c (.dma (rvMeS c)) else _) = _
  split
  · have h := rvMeS_val c
    exact (if_neg (fun ⟨_, h'⟩ => by omega)).trans (if_neg (fun ⟨_, h'⟩ => by omega))
  · rfl
theorem duties_later (g : GSem nD τ sig) : ∀ r, 1 ≤ r → (sched (F := F) m).duties g r = ∅ :=
  fun r hr => if_neg fun h => by omega

theorem amount_bar (d : Fin 15) : (sched (F := F) m).amount (barCell c) 0 d = 1 := rfl
theorem amount_snd (r d : Fin 15) : (sched (F := F) m).amount (sndCell c r) 0 d = N := rfl
theorem amount_rcv (p : Dev nD) (d : Fin 15) : (sched (F := F) m).amount (rcvCell c p) 0 d = N := rfl

theorem expect_bar : (sched (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_snd (r : Fin 15) : (sched (F := F) m).expect (sndCell c r) 0 = N := by
  unfold Schedule.expect Schedule.amountOf; rw [duties_snd, Finset.sum_singleton, amount_snd]
theorem expect_rcv (p : Dev nD) (hp : p ≠ c) : (sched (F := F) m).expect (rcvCell c p) 0 = N := by
  unfold Schedule.expect Schedule.amountOf; rw [duties_rcv m c p hp, Finset.sum_singleton, amount_rcv]

theorem payload_bar (d : Fin 15) : (sched (F := F) m).payload (barCell c) 0 d = barPay c d := rfl
theorem payload_snd (r d : Fin 15) : (sched (F := F) m).payload (sndCell c r) 0 d = sndPay c r := by
  have h := sdS_val r
  refine (if_neg ?_ : (if 23 ≤ (sdS r).val then rcvPay m c (rvIx (sdS r)) else sndPay c (sdIx (sdS r))) = _).trans ?_
  · have := r.isLt; omega
  · rw [sdIx_sdS]
theorem payload_rcv (p : Dev nD) (d : Fin 15) : (sched (F := F) m).payload (rcvCell c p) 0 d = rcvPay m c p := by
  have h := rvMeS_val p
  refine (if_pos ?_ : (if 23 ≤ (rvMeS p).val then rcvPay m c (rvIx (rvMeS p)) else sndPay c (sdIx (rvMeS p))) = _).trans ?_
  · omega
  · rw [rvIx_rvMeS]

/-- The whole round of a barrier cell: every peer's plane; -/
theorem rest_bar : bigSep ((sched (F := F) m).duties (barCell c) 0 \ ∅) (fun d => (sched (F := F) m).payload (barCell c) 0 d)
    = bigSep Finset.univ fun d => barPay c d := by
  rw [Finset.sdiff_empty, duties_bar]; rfl
/-- of a send cell: the sent plane; -/
theorem rest_snd (r : Fin 15) : bigSep ((sched (F := F) m).duties (sndCell c r) 0 \ ∅) (fun d => (sched (F := F) m).payload (sndCell c r) 0 d) = sndPay c r := by
  rw [Finset.sdiff_empty, duties_snd, bigSep_singleton, payload_snd]
/-- of a receive cell: the received plane. -/
theorem rest_rcv (p : Dev nD) (hp : p ≠ c) :
    bigSep ((sched (F := F) m).duties (rcvCell c p) 0 \ ∅) (fun d => (sched (F := F) m).payload (rcvCell c p) 0 d) = rcvPay m c p := by
  rw [Finset.sdiff_empty, duties_rcv m c p hp, bigSep_singleton, payload_rcv]

end Sched

/-! ## What each device owes; the levels -/

/-- The credits device `c` owes the receive cells of the listed peers, -/
def oRcv (c : Dev nD) : List (Fin 15) → CellTallies nD τ sig Unit
  | [] => 0
  | r :: l => oRcv c l + tallyAt (rcvCell (pr c r) c) () N
/-- and, on top of those, the units it owes the listed peers' barriers. -/
def oBar (c : Dev nD) (O : CellTallies nD τ sig Unit) : List (Fin 15) → CellTallies nD τ sig Unit
  | [] => O
  | r :: l => oBar c O l + tallyAt (barCell (pr c r)) () 1
/-- All it owes at launch. -/
def O₀ (c : Dev nD) : CellTallies nD τ sig Unit := oBar c (oRcv c sendL) sigL

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma i => if 23 ≤ i.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem oRcv_pos {c : Dev nD} {g : GSem nD τ sig} {u : Unit} : ∀ {l : List (Fin 15)}, 0 < oRcv c l g u → ∃ r, g = rcvCell (pr c r) c
  | [], h => absurd h (Nat.lt_irrefl 0)
  | r :: l, h => by
    unfold oRcv at h
    rw [Pi.add_apply, Finsupp.add_apply, tallyAt_apply] at h
    by_cases hg : g = rcvCell (pr c r) c ∧ u = ()
    · exact ⟨r, hg.1⟩
    · rw [if_neg hg, Nat.add_zero] at h; exact oRcv_pos h
theorem oBar_pos {c : Dev nD} {O : CellTallies nD τ sig Unit} {g : GSem nD τ sig} {u : Unit} :
    ∀ {l : List (Fin 15)}, 0 < oBar c O l g u → 0 < O g u ∨ ∃ r, g = barCell (pr c r)
  | [], h => .inl h
  | r :: l, h => by
    unfold oBar at h
    rw [Pi.add_apply, Finsupp.add_apply, tallyAt_apply] at h
    by_cases hg : g = barCell (pr c r) ∧ u = ()
    · exact .inr ⟨r, hg.1⟩
    · rw [if_neg hg, Nat.add_zero] at h; exact oBar_pos h

theorem lv_rcv (c p : Dev nD) : lv (rcvCell c p) () = 2 := by
  have h := rvMeS_val p
  exact if_pos (by omega)
theorem lv_low (c : Dev nD) (q : DmaSem sig) (hq : q.val < 23) : lv ((c : Thread nD τ), .dma q) () = 0 := if_neg (by omega)

/-- A wait on a cell of level `n` is safe while everything owed lies above. -/
theorem mayWait_of_above (c : Dev nD) (sm : SemLoc sig) (n : ℕ) (hn : lv ((c : Thread nD τ), sm) () ≤ n) (O : CellTallies nD τ sig Unit)
    (hO : ∀ g u, 0 < O g u → g.1.2 = .tc ∧ n < lv g ()) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

theorem oRcv_above (c : Dev nD) (l : List (Fin 15)) (g : GSem nD τ sig) (u : Unit) (h : 0 < oRcv c l g u) : g.1.2 = .tc ∧ 1 < lv g () := by
  obtain ⟨r, rfl⟩ := oRcv_pos h
  exact ⟨rfl, by rw [lv_rcv]; decide⟩

/-- Owing only receive credits a device may wait on its loads, -/
theorem mayWait_load (c : Dev nD) (s : Fin 3) (l : List (Fin 15)) :
    (levAts L lv : sProp 𝕄) ⊢ MayWait (c : Thread nD τ) (.dma (ldS s)) () (oRcv c l) :=
  mayWait_of_above c _ 1 (by rw [lv_low c _ (by have := ldS_val s; have := s.isLt; omega)]; decide) _ (oRcv_above c l)
/-- and on its barrier; -/
theorem mayWait_bar (c : Dev nD) (l : List (Fin 15)) :
    (levAts L lv : sProp 𝕄) ⊢ MayWait (c : Thread nD τ) (.reg barS) () (oRcv c l) :=
  mayWait_of_above c (.reg barS) 1 (Nat.le_refl (lv (barCell c) ())) _ (oRcv_above c l)
/-- owing all it owes at launch, or nothing, on the staging. -/
theorem mayWait_stage (c : Dev nD) (q : DmaSem sig) (hq : q.val < 23) (O : CellTallies nD τ sig Unit) (hO : O = O₀ c ∨ O = 0) :
    (levAts L lv : sProp 𝕄) ⊢ MayWait (c : Thread nD τ) (.dma q) () O := by
  rcases hO with rfl | rfl
  · refine mayWait_of_above c _ 0 (by rw [lv_low c q hq]) _ fun g u h => ?_
    rcases oBar_pos h with h | ⟨r, rfl⟩
    · exact ⟨(oRcv_above c sendL g u h).1, Nat.lt_of_lt_of_le Nat.zero_lt_one (Nat.le_of_lt (oRcv_above c sendL g u h).2)⟩
    · exact ⟨rfl, Nat.one_pos⟩
  · rw [MayWait_zero]; iintro -; iempintro

/-! ## The ghost state -/

/-- Every cell's invariant, under the names `K`, and that every cell has reached round 0. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

instance records_persistent (K : Dev nD × CK → ℕ) : BI.Persistent (records (F := F) m K) := by unfold records; infer_instance

theorem inv_at (K : Dev nD × CK → ℕ) (ck : Dev nD × CK) : records m K ⊢ cellInv ER (sched (F := F) m) (K ck) (kcell ck) := by
  unfold records; iintro ⟨H, -⟩
  iapply (show (bigSep Finset.univ fun ck : Dev nD × CK => cellInv ER (sched m) (K ck) (kcell ck)) ⊢ cellInv ER (sched m) (K ck) (kcell ck) from
    bigSep_elim (Finset.mem_univ ck))
  iexact H
theorem reached_at (K : Dev nD × CK → ℕ) (ck : Dev nD × CK) : records m K ⊢ (reached ER (kcell ck) 0 : sProp 𝕄) := by
  unfold records; iintro ⟨-, H⟩
  iapply (show (bigSep Finset.univ fun ck : Dev nD × CK => (reached ER (kcell ck) 0 : sProp 𝕄)) ⊢ reached ER (kcell ck) 0 from
    bigSep_elim (Finset.mem_univ ck))
  iexact H

/-- Device `c`'s positions, -/
def positions (c : Dev nD) : sProp 𝕄 :=
  iprop(atPos ER (barCell c) 0 ∅ 0 ∗ (bigSep Finset.univ fun r : Fin 15 => atPos ER (sndCell c r) 0 ∅ 0)
    ∗ (bigSep Finset.univ fun p : Dev nD => atPos ER (rcvCell c p) 0 ∅ 0))
/-- the duties it pays: a unit on each peer's barrier, the credit of each of its copies at both ends. -/
def payToks (c : Dev nD) : sProp 𝕄 :=
  iprop((bigSep Finset.univ fun r : Fin 15 => dutyTok ER (barCell (pr c r)) 0 (Fin.rev r))
    ∗ (bigSep Finset.univ fun r : Fin 15 => dutyTok ER (sndCell c r) 0 (0 : Fin 15))
    ∗ (bigSep Finset.univ fun r : Fin 15 => dutyTok ER (rcvCell (pr c r) c) 0 (0 : Fin 15)))
def ghost (c : Dev nD) : sProp 𝕄 := iprop(∃ K, records m K ∗ positions c ∗ payToks c)

/-- The credit it is launched with: its barrier's units and its receptions. -/
def credits (c : Dev nD) : sProp 𝕄 :=
  iprop(cred (tallyAt (barCell c) () 15) ∗ bigSep Finset.univ fun r : Fin 15 => cred (tallyAt (rcvCell c (pr c r)) () N))

end Cert.A2A

end
-- ==== Proof.Loads.lean ====
/-
The loads of the columns of `w`: a slot is idle, or a load into it is on its way, or it holds a column block.

`w` is held in three read shares, one per slot, so that up to three loads read it at a time.
-/
module

public import proofs.«01_k».proof.Proof.Protocol
public import Idealize.ShloMosaic.Lib.Tactic

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- Running `p` on device `c`. -/
abbrev Wp {α : Type} (c : Dev nD) (p : Prog (TpuEff nD τ sig (Elt F) Λ₀ .tc) α) (Q : α → sProp (MT nD τ sig Unit (Elt F) ℕ UU ℕ)) :
    sProp (MT nD τ sig Unit (Elt F) ℕ UU ℕ) :=
  wp frame (wpE (defs₀ (F := F)) 𝒱₀ (c : Thread nD τ) none) Set.univ p Q

theorem Wp_bind {α β : Type} (c : Dev nD) (p : Prog (TpuEff nD τ sig (Elt F) Λ₀ .tc) α) (k : α → Prog (TpuEff nD τ sig (Elt F) Λ₀ .tc) β) (Q : β → sProp 𝕄) :
    Wp c p (fun a => Wp c (k a) Q) ⊢ Wp c (p >>= k) Q := Entails.of_eq (wp_bind _ _ _ p k Q).symm
theorem Wp_ret {α : Type} (c : Dev nD) (a : α) (Q : α → sProp 𝕄) : Q a ⊢ Wp c (Prog.ret a) Q := by
  show _ ⊢ iprop(|={Set.univ}=> Q a)
  iintro H; imodintro; iexact H

/-- What device `c` owes, whatever it has waited for. -/
def Ow (c : Dev nD) (O : CellTallies nD τ sig Unit) : sProp 𝕄 := iprop(∃ W, owes (c : Thread nD τ) O W)

/-- The elements of slot `s`, -/
def slotSet (s : Fin 3) : Finset S3x4096x512.Idx := (slotR s).set
theorem slotM_set (s : Fin 3) : ((slotM s).view.set : Finset S3x4096x512.Idx) = slotSet s :=
  (View.set_reshape (bM.slice (slotR s) (fun _ => rfl)).view _).trans (View.set_slice_whole cc0_scratch0 (slotR s))
theorem acc_b (s : Fin 3) : ((bM.access (slotR s)).set : Finset S3x4096x512.Idx) = slotSet s := View.set_slice_whole cc0_scratch0 (slotR s)

/-- slot `s` holding `f`, -/
def bPts (c : Dev nD) (s : Fin 3) (f : Buf (Elt F) ((c : Thread nD τ).loc cc0_scratch0)) : sProp 𝕄 :=
  ((c : Thread nD τ).loc cc0_scratch0) ↦[slotSet s]{fullShare} f
/-- slot `s`'s share of `w`, -/
def wPts (c : Dev nD) (s : Fin 3) : sProp 𝕄 :=
  ((c : Thread nD τ).loc main_arg1) ↦{Transfers.shareTok fullShare 3 s} (m ((c : Thread nD τ).loc main_arg1))

/-- What slot `s` holds once the columns at distance `r` have been loaded into it over `f`. -/
abbrev slotW (c : Dev nD) (s : Fin 3) (r : Fin 16) (f : Buf (Elt F) ((slotM s).view.loc (c : Thread nD τ))) : Buf (Elt F) ((slotM s).view.loc (c : Thread nD τ)) :=
  (slotM s).view.write (Elt F) f (ReadAs.same.apply ((wcM c r).view.read (Elt F) (m ((wcM c r).view.loc (c : Thread nD τ))))) Finset.univ

theorem read_wc (c : Dev nD) (r : Fin 16) :
    (wcM c r).view.read (Elt F) (m ((wcM c r).view.loc (c : Thread nD τ))) = wcol m c (colOf c r) :=
  congrArg (fun M : Memref sig .tc .hbm S4096x512 .fp8e5m2 => M.view.read (Elt F) (m (M.view.loc (c : Thread nD τ)))) (wcM_eq c r)

theorem read_slotW (c : Dev nD) (s : Fin 3) (r : Fin 16) (f : S3x4096x512.Idx → Elt F .fp8e5m2) :
    (bM.access (slotR s)).read (Elt F) (slotW m c s r f) = wld m c (colOf c r) := by
  unfold slotW
  rw [read_wc]
  exact read_slot m s c (colOf c r) f

/-- Slot `s` is idle; -/
def Idle (c : Dev nD) (s : Fin 3) : sProp 𝕄 := iprop(semVal ((c : Thread nD τ), .dma (ldS s)) 0 ∗ (∃ f, bPts c s f) ∗ wPts m c s)
/-- the columns at distance `r` are on their way into it; -/
def Busy (c : Dev nD) (s : Fin 3) (r : Fin 16) : sProp 𝕄 :=
  iprop((∃ f, Transfers.Flight EC (c : Thread nD τ) (.dma (ldS s)) () ((slotM s).view.dmaCredit)
      iprop(((slotM s).view.loc (c : Thread nD τ) ↦[(slotM s).view.set]{fullShare} slotW m c s r f)
        ∗ ((wcM c r).view.loc (c : Thread nD τ) ↦[(wcM c r).view.set]{Transfers.shareTok fullShare 3 s} (m ((wcM c r).view.loc (c : Thread nD τ))))))
    ∗ ((wcM c r).view.loc (c : Thread nD τ) ↦[Finset.univ \ (wcM c r).view.set]{Transfers.shareTok fullShare 3 s} (m ((wcM c r).view.loc (c : Thread nD τ)))))
/-- it holds them. -/
def Full (c : Dev nD) (s : Fin 3) (r : Fin 16) : sProp 𝕄 :=
  iprop(semVal ((c : Thread nD τ), .dma (ldS s)) 0 ∗ (∃ f : Buf (Elt F) ((c : Thread nD τ).loc cc0_scratch0), bPts c s (slotW m c s r f)) ∗ wPts m c s)

theorem wPts_split (c : Dev nD) (s : Fin 3) (r : Fin 16) : wPts m c s
    ⊢ iprop(((wcM c r).view.loc (c : Thread nD τ) ↦[(wcM c r).view.set]{Transfers.shareTok fullShare 3 s} (m ((wcM c r).view.loc (c : Thread nD τ))))
      ∗ ((wcM c r).view.loc (c : Thread nD τ) ↦[Finset.univ \ (wcM c r).view.set]{Transfers.shareTok fullShare 3 s} (m ((wcM c r).view.loc (c : Thread nD τ))))) :=
  (pointsTo_split_subset (ℓ := (wcM c r).view.loc (c : Thread nD τ)) (Finset.subset_univ (wcM c r).view.set)).1
theorem wPts_join (c : Dev nD) (s : Fin 3) (r : Fin 16) :
    iprop(((wcM c r).view.loc (c : Thread nD τ) ↦[(wcM c r).view.set]{Transfers.shareTok fullShare 3 s} (m ((wcM c r).view.loc (c : Thread nD τ))))
      ∗ ((wcM c r).view.loc (c : Thread nD τ) ↦[Finset.univ \ (wcM c r).view.set]{Transfers.shareTok fullShare 3 s} (m ((wcM c r).view.loc (c : Thread nD τ)))))
    ⊢ wPts m c s :=
  (pointsTo_split_subset (ℓ := (wcM c r).view.loc (c : Thread nD τ)) (Finset.subset_univ (wcM c r).view.set)).2

/-- Starting a load. -/
theorem wp_startLd (c : Dev nD) (r : Fin 16) (s : Fin 3) (Q : PUnit → sProp 𝕄) :
    iprop(Idle m c s ∗ (Busy m c s r -∗ Q ⟨⟩)) ⊢ Wp c (startLd (F := F) c r s) Q := by
  unfold startLd Idle
  simp only [Prog.lift]
  iintro ⟨⟨Hv, ⟨%f, Hb⟩, Hw⟩, Hk⟩
  ihave Hw := (wPts_split m c s r) $$ Hw
  icases Hw with ⟨Hw, Hrest⟩
  ihave Hb := (show bPts c s f ⊢ ((slotM s).view.loc (c : Thread nD τ) ↦[(slotM s).view.set]{fullShare} f : sProp 𝕄) from
    Entails.of_eq (by unfold bPts; rw [slotM_set])) $$ Hb
  iapply (Transfers.wp_dmaLocal EC 𝒱₀ (c : Thread nD τ) none () ((slotM s).view.dmaCredit) rfl (View.dmaCredit_pos _ (by decide)) (Finset.Subset.refl _)) $$ [Hv Hb Hw]
  · isplitl [Hw]; · iexact Hw
    isplitl [Hb]; · iexact Hb
    iexact Hv
  iintro Hfl
  rw [wp_ret]; imodintro
  iapply Hk
  unfold Busy
  isplitl [Hfl]
  · iexists f; iexact Hfl
  · iexact Hrest

/-- Waiting for it. -/
theorem wp_waitLd (c : Dev nD) (r : Fin 16) (s : Fin 3) (l : List (Fin 15)) (Q : PUnit → sProp 𝕄) :
    iprop(Busy m c s r ∗ levAts L lv ∗ Ow c (oRcv c l) ∗ ((Full m c s r ∗ Ow c (oRcv c l)) -∗ Q ⟨⟩)) ⊢ Wp c (waitLd (F := F) c r s) Q := by
  unfold waitLd Busy Ow
  simp only [Prog.lift]
  iintro ⟨⟨⟨%f, Hfl⟩, Hrest⟩, #Hlev, ⟨%W, HO⟩, Hk⟩
  iapply (Transfers.wp_waitLocalO EC 𝒱₀ (c : Thread nD τ) none (O := oRcv c l) (W := W) () rfl) $$ [Hfl HO]
  · isplitl [Hfl]; · iexact Hfl
    isplitl [HO]; · iexact HO
    iapply (mayWait_load c s l); iexact Hlev
  iintro ⟨⟨Hb, Hw⟩, Hv, HO⟩
  rw [wp_ret]; imodintro
  iapply Hk
  isplitr [HO]
  · unfold Full
    isplitl [Hv]; · iexact Hv
    isplitl [Hb]
    · iexists f
      iapply (show ((slotM s).view.loc (c : Thread nD τ) ↦[(slotM s).view.set]{fullShare} slotW m c s r f : sProp 𝕄) ⊢ bPts c s (slotW m c s r f) from
        Entails.of_eq (by unfold bPts; rw [slotM_set]))
      iexact Hb
    · iapply (wPts_join m c s r)
      isplitl [Hw] <;> iassumption
  · iexists _; iexact HO

/-- Reading a slot that holds a column block. -/
theorem wp_readLd (c : Dev nD) (r : Fin 16) (s : Fin 3) (Q : Vec F S1x4096x512 .fp8e5m2 → sProp 𝕄) :
    iprop(Full m c s r ∗ (Idle m c s -∗ Q (wld m c (colOf c r)))) ⊢ Wp c (readLd (F := F) s) Q := by
  unfold readLd Full
  simp only [Prog.lift]
  iintro ⟨⟨Hv, ⟨%f, Hb⟩, Hw⟩, Hk⟩
  iapply (wp_load_rect 𝒱₀ (c : Thread nD τ) none Set.univ (m := bM) (r := slotR s) (S := slotSet s) (q := fullShare) (f := slotW m c s r f)
    (Finset.subset_of_eq (acc_b s))) $$ [Hb]
  · unfold bPts; iexact Hb
  iintro Hb
  rw [wp_ret, read_slotW]; imodintro
  iapply Hk
  unfold Idle
  isplitl [Hv]; · iexact Hv
  isplitl [Hb]
  · iexists (slotW m c s r f); unfold bPts; iexact Hb
  · iexact Hw

end Cert.A2A

end
-- ==== Proof.Steps.lean ====
/-
The loops of the body, one effect at a time: the signals, the steps that compute and send a block each, the receptions, and
the waits for the sends to have left.
-/
module

public import proofs.«01_k».proof.Proof.Loads

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

theorem acc_y (c : Dev nD) (r : Fin 15) : ((yM.access (rowR c r)).set : Finset S16x256x512.Idx) = planeS (pr c r) :=
  (View.set_slice_whole cc0_scratch1 (rowR c r)).trans (rowR_set c r)
theorem acc_r (c : Dev nD) (r : Fin 15) : ((rM.access (rowR c r)).set : Finset S16x256x512.Idx) = planeS (pr c r) :=
  (View.set_slice_whole cc0_scratch2 (rowR c r)).trans (rowR_set c r)

/-! ## The signals -/

/-- What a signal to the peer at distance `1 + r` takes: the duty on its barrier, and the plane it is to write. -/
def sigRes (c : Dev nD) (r : Fin 15) : sProp 𝕄 := iprop(dutyTok ER (barCell (pr c r)) 0 (Fin.rev r) ∗ ∃ f, rPts c (pr c r) f)

theorem wp_signal_one (c n : Dev nD) (r : Fin 15) (hn : n = pr c r) (O : CellTallies nD τ sig Unit) {α : Type}
    (k : PUnit → Prog (TpuEff nD τ sig (Elt F) Λ₀ .tc) α) (Q : α → sProp 𝕄) :
    iprop(records m K ∗ Ow c (O + tallyAt (barCell (pr c r)) () 1) ∗ sigRes c r ∗ (Ow c O -∗ Wp c (k ⟨⟩) Q))
      ⊢ Wp c (.op (.semSignal (n : Thread nD τ) barS (1#32).toNat) k) Q := by
  subst hn
  unfold Ow sigRes
  iintro ⟨#HR, ⟨%W, HO⟩, ⟨Ht, Hp⟩, Hk⟩
  iapply (Rounds.wp_signal 𝒱₀ ER (sched m) (c : Thread nD τ) none (dst := (pr c r : Thread nD τ)) (κ := K (pr c r, .inl ()))
      (d := Fin.rev r) (by rw [duties_bar]; exact Finset.mem_univ _) ((amount_bar m (pr c r) (Fin.rev r)).trans (by decide)) () O rfl) $$ [HO Ht Hp]
  · isplitr; · iapply (inv_at m K (pr c r, .inl ())); iexact HR
    isplitl [HO]; · iexact HO
    isplitl [Ht]; · iexact Ht
    isplitl [Hp]
    · rw [payload_bar]; unfold barPay; rw [pr_rev]; iexact Hp
    · iapply (reached_at m K (pr c r, .inl ())); iexact HR
  iintro HO
  iapply Hk
  iexists W; iexact HO

theorem wp_signals (c : Dev nD) (O : CellTallies nD τ sig Unit) (Q : PUnit → sProp 𝕄) : ∀ l : List (Fin 15),
    iprop(records m K ∗ Ow c (oBar c O l) ∗ bigSepL l (sigRes c) ∗ (Ow c O -∗ Q ⟨⟩)) ⊢ Wp c (signals (F := F) c l) Q
  | [] => by
    show _ ⊢ Wp c (Prog.ret ⟨⟩) Q
    iintro ⟨-, HO, -, Hk⟩
    iapply (Wp_ret c _ Q)
    iapply Hk; iexact HO
  | r :: l => by
    simp only [signals, semSignalWord, Prog.lift, Prog.bind_op, Prog.bind_ret]
    rw [bigSepL_cons']
    iintro ⟨#HR, HO, ⟨Hr, Hl⟩, Hk⟩
    iapply (wp_signal_one m K c _ r (sigDev_eq c r) (oBar c O l) _ Q)
    isplitr; · iexact HR
    isplitl [HO]; · iexact HO
    isplitl [Hr]; · iexact Hr
    iintro HO
    iapply (wp_signals c O Q l)
    isplitr; · iexact HR
    isplitl [HO]; · iexact HO
    isplitl [Hl] <;> iassumption

/-! ## A block stored and sent -/

/-- What sending to the peer at distance `1 + r` takes: the two duties, the computed plane, and the peer's plane for it. -/
def sendRes (c : Dev nD) (r : Fin 15) : sProp 𝕄 :=
  iprop(dutyTok ER (sndCell c r) 0 (0 : Fin 15) ∗ dutyTok ER (rcvCell (pr c r) c) 0 (0 : Fin 15) ∗ (∃ f, yPts c (pr c r) f) ∗ ∃ f, rPts (pr c r) c f)

theorem wp_send_one (c n : Dev nD) (r : Fin 15) (hn : n = pr c r) {hsc : (rMeM c).view.ref.isScScratch = false}
    {hsrc : (yRowM c r).view.WordExact} {hdst : (rMeM c).view.WordExact}
    {hsem : DmaTarget.Typed .vmem (.dma (rvMeS c)) (.remote (Dev.tc n : Thread nD τ) (rMeM c) (.dma (sdS r)) hsc)}
    (l : List (Fin 15)) (fs : Buf (Elt F) ((c : Thread nD τ).loc cc0_scratch1)) (fd : Buf (Elt F) ((pr c r : Thread nD τ).loc cc0_scratch2))
    (hfs : plane (pr c r) fs = blk m c (pr c r)) {α : Type}
    (k : PUnit → Prog (TpuEff nD τ sig (Elt F) Λ₀ .tc) α) (Q : α → sProp 𝕄) :
    iprop(records m K ∗ Ow c (oRcv c (r :: l)) ∗ dutyTok ER (sndCell c r) 0 (0 : Fin 15) ∗ dutyTok ER (rcvCell (pr c r) c) 0 (0 : Fin 15)
        ∗ yPts c (pr c r) fs ∗ rPts (pr c r) c fd ∗ ((Ow c (oRcv c l) ∗ cred (tallyAt (sndCell c r) () N)) -∗ Wp c (k ⟨⟩) Q))
      ⊢ Wp c (.op (.enqueueDma (yRowM c r) (.remote (Dev.tc n : Thread nD τ) (rMeM c) (.dma (sdS r)) hsc) (.dma (rvMeS c)) hsrc hdst hsem) k) Q := by
  subst hn
  unfold Ow
  iintro ⟨#HR, ⟨%W, HO⟩, Ht1, Ht2, Hy, Hr, Hk⟩
  ihave Hy := (show yPts c (pr c r) fs ⊢ ((yRowM c r).view.loc (c : Thread nD τ) ↦[(yRowM c r).view.set]{fullShare} fs : sProp 𝕄) from
    Entails.of_eq (by unfold yPts; rw [yRowM_set])) $$ Hy
  ihave Hr := (show rPts (pr c r) c fd ⊢ ((rMeM c).view.loc (pr c r : Thread nD τ) ↦[(rMeM c).view.set]{fullShare} fd : sProp 𝕄) from
    Entails.of_eq (by unfold rPts; rw [rMeM_set])) $$ Hr
  iapply (Rounds.wp_send_pointsTo 𝒱₀ ER (sched m) (c : Thread nD τ) none (κ₁ := K (c, .inr (.inl r))) (κ₂ := K (pr c r, .inr (.inr c)))
    (c' := (pr c r : Thread nD τ)) (src := yRowM c r) (dst := rMeM c) (sS := .dma (sdS r)) (sem := .dma (rvMeS c)) (r₁ := 0) (r₂ := 0) (d₁ := 0) (d₂ := 0) (fd := fd) (fs := fs) (q := fullShare)
    (by rw [duties_snd]; exact Finset.mem_singleton_self _) (by rw [duties_rcv m _ _ (pr_ne c r).symm]; exact Finset.mem_singleton_self _)
    () () N (credit_me c) (amount_snd m c r 0) (amount_rcv m (pr c r) c 0) (oRcv c l) rfl (W := W)
    (by rw [payload_snd, yRowM_set]; unfold sndPay yPts; iintro H; iexists fs; iexact H)
    (by
      rw [payload_rcv]; unfold rcvPay
      iintro H
      iexists ((rMeM c).view.write (Elt F) fd ((yRowM c r).view.read (Elt F) fs) Finset.univ)
      isplitr
      · ipureintro; exact (plane_copy c r fd fs).trans hfs
      · iapply (show ((rMeM c).view.loc (pr c r : Thread nD τ) ↦[(rMeM c).view.set]{fullShare} ((rMeM c).view.write (Elt F) fd ((yRowM c r).view.read (Elt F) fs) Finset.univ) : sProp 𝕄)
          ⊢ rPts (pr c r) c ((rMeM c).view.write (Elt F) fd ((yRowM c r).view.read (Elt F) fs) Finset.univ) from
          Entails.of_eq (by unfold rPts; rw [rMeM_set]))
        iexact H)) $$ [HO Ht1 Ht2 Hy Hr]
  · isplitr; · iapply (inv_at m K (c, .inr (.inl r))); iexact HR
    isplitr; · iapply (inv_at m K (pr c r, .inr (.inr c))); iexact HR
    isplitl [Hy]; · iexact Hy
    isplitl [Hr]; · iexact Hr
    isplitl [HO]; · iexact HO
    isplitl [Ht1]; · iexact Ht1
    isplitr; · iapply (reached_at m K (c, .inr (.inl r))); iexact HR
    isplitl [Ht2]; · iexact Ht2
    iapply (reached_at m K (pr c r, .inr (.inr c))); iexact HR
  iintro ⟨Hc, HO⟩
  iapply Hk
  isplitl [HO]
  · iexists W; iexact HO
  · iexact Hc

theorem wp_sendBlk (c : Dev nD) (s : F .f32) (x : FVec F S256x4096 .bf16) (w : Vec F S1x4096x512 .fp8e5m2) (r : Fin 15)
    (hb : k0_pay3 s x w = blk m c (pr c r)) (l : List (Fin 15)) (Q : PUnit → sProp 𝕄) :
    iprop(records m K ∗ Ow c (oRcv c (r :: l)) ∗ sendRes c r ∗ ((Ow c (oRcv c l) ∗ cred (tallyAt (sndCell c r) () N)) -∗ Q ⟨⟩))
      ⊢ Wp c (sendBlk c s x w r) Q := by
  unfold sendBlk sendRes
  simp only [Prog.lift, Prog.bind_op, Prog.bind_ret]
  iintro ⟨#HR, HO, ⟨Ht1, Ht2, ⟨%fy, Hy⟩, ⟨%fd, Hr⟩⟩, Hk⟩
  unfold yPts
  iapply (wp_load_rect 𝒱₀ (c : Thread nD τ) none Set.univ (m := yM) (r := rowR c r) (S := planeS (pr c r)) (q := fullShare) (f := fy)
    (Finset.subset_of_eq (acc_y c r))) $$ Hy
  iintro Hy
  iapply (wp_store 𝒱₀ (c : Thread nD τ) none Set.univ (m := yM) (r := rowR c r) (Mk := Finset.univ) (S := planeS (pr c r)) (f := fy)
    (Finset.subset_of_eq (acc_y c r))) $$ Hy
  iintro Hy
  iapply (wp_send_one m K c _ r (sendDev_eq c r) l _ fd ((plane_store c r fy (k0_pay3 s x w)).trans hb) _ Q)
  isplitr; · iexact HR
  isplitl [HO]; · iexact HO
  isplitl [Ht1]; · iexact Ht1
  isplitl [Ht2]; · iexact Ht2
  isplitl [Hy]; · unfold yPts; iexact Hy
  isplitl [Hr]; · iexact Hr
  iintro H
  iapply (Wp_ret c _ Q)
  iapply Hk; iexact H

/-- The result's buffer, the row blocks listed holding what they are to hold. -/
def outPts (c : Dev nD) (l : List (Dev nD)) : sProp 𝕄 :=
  iprop(∃ f : Buf (Elt F) ((c : Thread nD τ).loc cc0_stg3_0), ⌜OutOk m c l f⌝ ∗ ((c : Thread nD τ).loc cc0_stg3_0 ↦{fullShare} f))

theorem wp_ownBlk (c : Dev nD) (s : F .f32) (x : FVec F S256x4096 .bf16) (w : Vec F S1x4096x512 .fp8e5m2) (hb : k0_pay27 s x w = ownB m c)
    (l : List (Dev nD)) (Q : PUnit → sProp 𝕄) :
    iprop(outPts m c l ∗ (outPts m c (c :: l) -∗ Q ⟨⟩)) ⊢ Wp c (ownBlk c s x w) Q := by
  unfold ownBlk outPts
  simp only [Prog.lift, Prog.bind_op, Prog.bind_ret]
  iintro ⟨⟨%f, %hf, Ho⟩, Hk⟩
  iapply (wp_load_rect 𝒱₀ (c : Thread nD τ) none Set.univ (m := oM) (r := Rect.unit (s := S4096x512) (k0_off6 c) S256x512.size (k0_off6_inb c))
    (S := Finset.univ) (q := fullShare) (f := f) (Finset.subset_univ _)) $$ Ho
  iintro Ho
  iapply (wp_store 𝒱₀ (c : Thread nD τ) none Set.univ (m := oM) (r := Rect.unit (s := S4096x512) (k0_off6 c) S256x512.size (k0_off6_inb c))
    (Mk := Finset.univ) (S := Finset.univ) (f := f) (Finset.subset_univ _)) $$ Ho
  iintro Ho
  rw [wp_ret]; imodintro
  iapply Hk
  iexists _
  isplitr
  · ipureintro
    exact outOk_store m c c l (k0_off6 c) (off6_eq c) (k0_off6_inb c) f (k0_pay27 s x w) (hb.trans (by unfold outBlk; rw [if_pos rfl])) hf
  · iexact Ho

/-! ## A step -/

/-- The products and rows the body computes with are those of the blocks. -/
theorem blk_eq (c : Dev nD) (r : Fin 15) : k0_pay3 (sV m c) (xV m c) (wld m c (colOf c (Fin.succ r))) = blk m c (pr c r) := rfl
theorem ownB_eq (c : Dev nD) : k0_pay27 (sV m c) (xV m c) (wld m c (colOf c 0)) = ownB m c := rfl

theorem wp_sendStep (c : Dev nD) (r : Fin 15) (sl : Fin 3) (l : List (Fin 15)) (Q : PUnit → sProp 𝕄) :
    iprop(records m K ∗ levAts L lv ∗ Ow c (oRcv c (r :: l)) ∗ Busy m c sl (Fin.succ r) ∗ sendRes c r
        ∗ ((Ow c (oRcv c l) ∗ Idle m c sl ∗ cred (tallyAt (sndCell c r) () N)) -∗ Q ⟨⟩))
      ⊢ Wp c (sendStep c (sV m c) (xV m c) r sl) Q := by
  unfold sendStep
  iintro ⟨#HR, #Hlev, HO, Hb, Hs, Hk⟩
  iapply (Wp_bind c _ _ Q)
  iapply (wp_waitLd m c (Fin.succ r) sl (r :: l))
  isplitl [Hb]; · iexact Hb
  isplitr; · iexact Hlev
  isplitl [HO]; · iexact HO
  iintro ⟨Hf, HO⟩
  iapply (Wp_bind c _ _ Q)
  iapply (wp_readLd m c (Fin.succ r) sl)
  isplitl [Hf]; · iexact Hf
  iintro Hi
  iapply (wp_sendBlk m K c (sV m c) (xV m c) _ r (blk_eq m c r) l Q)
  isplitr; · iexact HR
  isplitl [HO]; · iexact HO
  isplitl [Hs]; · iexact Hs
  iintro ⟨HO, Hc⟩
  iapply Hk
  isplitl [HO]; · iexact HO
  isplitl [Hi] <;> iassumption

theorem wp_ownStep (c : Dev nD) (sl : Fin 3) (Q : PUnit → sProp 𝕄) :
    iprop(levAts L lv ∗ Ow c (oRcv c []) ∗ Busy m c sl 0 ∗ outPts m c []
        ∗ ((Ow c (oRcv c []) ∗ Idle m c sl ∗ outPts m c [c]) -∗ Q ⟨⟩))
      ⊢ Wp c (ownStep c (sV m c) (xV m c) sl) Q := by
  unfold ownStep
  iintro ⟨#Hlev, HO, Hb, Hout, Hk⟩
  iapply (Wp_bind c _ _ Q)
  iapply (wp_waitLd m c 0 sl [])
  isplitl [Hb]; · iexact Hb
  isplitr; · iexact Hlev
  isplitl [HO]; · iexact HO
  iintro ⟨Hf, HO⟩
  iapply (Wp_bind c _ _ Q)
  iapply (wp_readLd m c 0 sl)
  isplitl [Hf]; · iexact Hf
  iintro Hi
  iapply (wp_ownBlk m c (sV m c) (xV m c) _ (ownB_eq m c) [] Q)
  isplitl [Hout]; · iexact Hout
  iintro Hout
  iapply Hk
  isplitl [HO]; · iexact HO
  isplitl [Hi] <;> iassumption

/-- All steps: every block is sent, the device's own is in the result, and the slots are idle again. -/
theorem wp_steps (c : Dev nD) : ∀ (l : List (Fin 15)) (a b : Fin 15) (sa sb sc : Fin 3) (Q : PUnit → sProp 𝕄),
    iprop(records m K ∗ levAts L lv ∗ Ow c (oRcv c (a :: b :: l)) ∗ Busy m c sa (Fin.succ a) ∗ Busy m c sb (Fin.succ b) ∗ Idle m c sc
        ∗ bigSepL (a :: b :: l) (sendRes c) ∗ outPts m c []
        ∗ ((Ow c (oRcv c []) ∗ (Idle m c sa ∗ Idle m c sb ∗ Idle m c sc) ∗ bigSepL (a :: b :: l) (fun r => cred (tallyAt (sndCell c r) () N))
            ∗ outPts m c [c]) -∗ Q ⟨⟩))
      ⊢ Wp c (steps c (sV m c) (xV m c) a b sa sb sc l) Q
  | [], a, b, sa, sb, sc, Q => by
    unfold steps
    simp only [bigSepL_cons', bigSepL_nil]
    iintro ⟨#HR, #Hlev, HO, Ha, Hb, Hc, ⟨Hsa, Hsb, -⟩, Hout, Hk⟩
    iapply (Wp_bind c _ _ Q)
    iapply (wp_startLd m c 0 sc)
    isplitl [Hc]; · iexact Hc
    iintro Hc
    iapply (Wp_bind c _ _ Q)
    iapply (wp_sendStep m K c a sa [b])
    isplitr; · iexact HR
    isplitr; · iexact Hlev
    isplitl [HO]; · iexact HO
    isplitl [Ha]; · iexact Ha
    isplitl [Hsa]; · iexact Hsa
    iintro ⟨HO, Ha, Hca⟩
    iapply (Wp_bind c _ _ Q)
    iapply (wp_sendStep m K c b sb [])
    isplitr; · iexact HR
    isplitr; · iexact Hlev
    isplitl [HO]; · iexact HO
    isplitl [Hb]; · iexact Hb
    isplitl [Hsb]; · iexact Hsb
    iintro ⟨HO, Hb, Hcb⟩
    iapply (wp_ownStep m c sc)
    isplitr; · iexact Hlev
    isplitl [HO]; · iexact HO
    isplitl [Hc]; · iexact Hc
    isplitl [Hout]; · iexact Hout
    iintro ⟨HO, Hc, Hout⟩
    iapply Hk
    isplitl [HO]; · iexact HO
    isplitl [Ha Hb Hc]
    · isplitl [Ha]; · iexact Ha
      isplitl [Hb] <;> iassumption
    isplitl [Hca Hcb]
    · isplitl [Hca]; · iexact Hca
      isplitl [Hcb]; · iexact Hcb
      iempintro
    · iexact Hout
  | n :: l, a, b, sa, sb, sc, Q => by
    unfold steps
    rw [bigSepL_cons' a, bigSepL_cons' a]
    iintro ⟨#HR, #Hlev, HO, Ha, Hb, Hc, ⟨Hsa, Hs⟩, Hout, Hk⟩
    iapply (Wp_bind c _ _ Q)
    iapply (wp_startLd m c (Fin.succ n) sc)
    isplitl [Hc]; · iexact Hc
    iintro Hc
    iapply (Wp_bind c _ _ Q)
    iapply (wp_sendStep m K c a sa (b :: n :: l))
    isplitr; · iexact HR
    isplitr; · iexact Hlev
    isplitl [HO]; · iexact HO
    isplitl [Ha]; · iexact Ha
    isplitl [Hsa]; · iexact Hsa
    iintro ⟨HO, Ha, Hca⟩
    iapply (wp_steps c l b n sb sc sa Q)
    isplitr; · iexact HR
    isplitr; · iexact Hlev
    isplitl [HO]; · iexact HO
    isplitl [Hb]; · iexact Hb
    isplitl [Hc]; · iexact Hc
    isplitl [Ha]; · iexact Ha
    isplitl [Hs]; · iexact Hs
    isplitl [Hout]; · iexact Hout
    iintro ⟨HO, ⟨Hb, Hc, Ha⟩, Hcs, Hout⟩
    iapply Hk
    isplitl [HO]; · iexact HO
    isplitl [Ha Hb Hc]
    · isplitl [Ha]; · iexact Ha
      isplitl [Hb] <;> iassumption
    isplitl [Hca Hcs]
    · isplitl [Hca] <;> iassumption
    · iexact Hout

/-! ## The receptions -/

/-- What receiving from the peer at distance `1 + r` takes, -/
def recvRes (c : Dev nD) (r : Fin 15) : sProp 𝕄 :=
  iprop(atPos ER (rcvCell c (pr c r)) 0 ∅ 0 ∗ cred (tallyAt (rcvCell c (pr c r)) () N))
/-- and leaves: the plane, and the semaphore back at zero. -/
def recvd (c : Dev nD) (r : Fin 15) : sProp 𝕄 := iprop((∃ f, rPts c (pr c r) f) ∗ semVal (rcvCell c (pr c r)) 0)

theorem wait_recv_eq (c : Dev nD) (r : Fin 15) (i : DmaSem sig) {hs : (yRowM c r).view.WordExact} {hd : (rRowM c r).view.WordExact} (Q : PUnit → sProp 𝕄) :
    wpE (defs₀ (F := F)) 𝒱₀ (c : Thread nD τ) none Set.univ (.waitDma2 i (yRowM c r) (rRowM c r) hs hd) Q
      = waitSpec (c : Thread nD τ) Set.univ (.dma i) N Q :=
  (wpE_waitDma2_eq 𝒱₀ (c : Thread nD τ) none Set.univ Q).trans (by rw [credit_r])

theorem wp_wait_recv (c : Dev nD) (r : Fin 15) (i : DmaSem sig) (hi : i = rvMeS (pr c r))
    {hs : (yRowM c r).view.WordExact} {hd : (rRowM c r).view.WordExact} {α : Type}
    (k : PUnit → Prog (TpuEff nD τ sig (Elt F) Λ₀ .tc) α) (Q : α → sProp 𝕄) :
    iprop(records m K ∗ Ow c 0 ∗ recvRes c r
        ∗ ((Ow c 0 ∗ rcvPay m c (pr c r) ∗ semVal (rcvCell c (pr c r)) 0) -∗ Wp c (k ⟨⟩) Q))
      ⊢ Wp c (.op (.waitDma2 i (yRowM c r) (rRowM c r) hs hd) k) Q := by
  subst hi
  unfold Ow recvRes
  iintro ⟨#HR, ⟨%W, HO⟩, ⟨Hat, Hc⟩, Hk⟩
  iapply (Rounds.wp_wait_rest_token 𝒱₀ ER (sched m) (c : Thread nD τ) none (κ := K (c, .inr (.inr (pr c r)))) (k' := N)
      (wait_recv_eq c r _) (Set.mem_univ _) () (O := 0) (W := W) (R := 0) (m := 0) (T := ∅)
      (by rw [Nat.zero_add, expect_rcv m c _ (pr_ne c r)])) $$ [Hc HO Hat]
  · isplitr; · iapply (inv_at m K (c, .inr (.inr (pr c r)))); iexact HR
    isplitl [Hc]; · iexact Hc
    isplitl [HO]; · iexact HO
    isplitr; · rw [MayWait_zero]; iempintro
    iexact Hat
  iintro ⟨HO, Hat, -, Hpay⟩
  ihave Hp := (Entails.of_eq (rest_rcv m c (pr c r) (pr_ne c r))) $$ Hpay
  imod (Rounds.cell_close ER (sched m) (Set.mem_univ (K (c, .inr (.inr (pr c r))))) (fun h => h) (R := 0 + 1) (duties_later m (rcvCell c (pr c r)))) $$ [Hat] with Hz
  · isplitr; · iapply (inv_at m K (c, .inr (.inr (pr c r)))); iexact HR
    iexact Hat
  iapply Hk
  isplitl [HO]; · iexists _; iexact HO
  isplitl [Hp] <;> iassumption

/-- The receptions listed, each adding its row block to the result. -/
theorem wp_recvs (c : Dev nD) : ∀ (l : List (Fin 15)) (d : List (Dev nD)) (Q : PUnit → sProp 𝕄),
    iprop(records m K ∗ Ow c 0 ∗ bigSepL l (recvRes c) ∗ outPts m c d
        ∗ ((Ow c 0 ∗ bigSepL l (recvd c) ∗ outPts m c (l.foldl (fun d r => pr c r :: d) d)) -∗ Q ⟨⟩))
      ⊢ Wp c (recvs (F := F) c l) Q
  | [], d, Q => by
    show _ ⊢ Wp c (Prog.ret ⟨⟩) Q
    iintro ⟨-, HO, Hl, Hout, Hk⟩
    iapply (Wp_ret c _ Q)
    iapply Hk
    isplitl [HO]; · iexact HO
    isplitl [Hl]; · iexact Hl
    iexact Hout
  | r :: l, d, Q => by
    simp only [recvs, Prog.lift, Prog.bind_op, Prog.bind_ret]
    rw [bigSepL_cons', bigSepL_cons', List.foldl_cons]
    iintro ⟨#HR, HO, ⟨Hr, Hl⟩, Hout, Hk⟩
    iapply (wp_wait_recv m K c r _ (rvS_eq c r) _ Q)
    isplitr; · iexact HR
    isplitl [HO]; · iexact HO
    isplitl [Hr]; · iexact Hr
    iintro ⟨HO, Hp, Hz⟩
    unfold rcvPay
    icases Hp with ⟨%f, %hf, Hp⟩
    unfold rPts
    iapply (wp_load_rect 𝒱₀ (c : Thread nD τ) none Set.univ (m := rM) (r := rowR c r) (S := planeS (pr c r)) (q := fullShare) (f := f)
      (Finset.subset_of_eq (acc_r c r))) $$ Hp
    iintro Hp
    rw [show (rM.access (rowR c r)).read (Elt F) f = blk m (pr c r) c from (readAt_rowR c r f).trans hf]
    unfold outPts
    icases Hout with ⟨%g, %hg, Ho⟩
    iapply (wp_load_rect 𝒱₀ (c : Thread nD τ) none Set.univ (m := oM) (r := Rect.unit (s := S4096x512) (k0_off8 c (dW r)) S256x512.size (k0_off8_inb c r))
      (S := Finset.univ) (q := fullShare) (f := g) (Finset.subset_univ _)) $$ Ho
    iintro Ho
    iapply (wp_store 𝒱₀ (c : Thread nD τ) none Set.univ (m := oM) (r := Rect.unit (s := S4096x512) (k0_off8 c (dW r)) S256x512.size (k0_off8_inb c r))
      (Mk := Finset.univ) (S := Finset.univ) (f := g) (Finset.subset_univ _)) $$ Ho
    iintro Ho
    iapply (wp_recvs c l (pr c r :: d) Q)
    isplitr; · iexact HR
    isplitl [HO]; · iexact HO
    isplitl [Hl]; · iexact Hl
    isplitl [Ho]
    · unfold outPts
      iexists _
      isplitr
      · ipureintro
        exact outOk_store m c (pr c r) d (k0_off8 c (dW r)) (off8_eq c r) (k0_off8_inb c r) g (k0_pay28 (blk m (pr c r) c))
          (by unfold outBlk; rw [if_neg (pr_ne c r)]) hg
      · iexact Ho
    iintro ⟨HO, Hl, Hout⟩
    iapply Hk
    isplitl [HO]; · iexact HO
    isplitl [Hp Hz Hl]
    · isplitl [Hp Hz]
      · unfold recvd rPts
        isplitl [Hp]; · iexists f; iexact Hp
        iexact Hz
      · iexact Hl
    · unfold outPts; iexact Hout

/-! ## The sends leave -/

/-- What waiting for the send at distance `1 + r` takes, -/
def drainRes (c : Dev nD) (r : Fin 15) : sProp 𝕄 := iprop(atPos ER (sndCell c r) 0 ∅ 0 ∗ cred (tallyAt (sndCell c r) () N))
/-- and leaves: the sent plane, and the semaphore back at zero. -/
def drained (c : Dev nD) (r : Fin 15) : sProp 𝕄 := iprop((∃ f, yPts c (pr c r) f) ∗ semVal (sndCell c r) 0)

theorem wait_send_eq (c : Dev nD) (r : Fin 15) {hs : (rMeM c).view.WordExact} {hd : (yRowM c r).view.WordExact} (Q : PUnit → sProp 𝕄) :
    wpE (defs₀ (F := F)) 𝒱₀ (c : Thread nD τ) none Set.univ (.waitDma2 (sdS r) (rMeM c) (yRowM c r) hs hd) Q
      = waitSpec (c : Thread nD τ) Set.univ (.dma (sdS r)) N Q :=
  (wpE_waitDma2_eq 𝒱₀ (c : Thread nD τ) none Set.univ Q).trans (by rw [credit_y])

theorem wp_drains (c : Dev nD) (Q : PUnit → sProp 𝕄) : ∀ l : List (Fin 15),
    iprop(records m K ∗ Ow c 0 ∗ bigSepL l (drainRes c) ∗ ((Ow c 0 ∗ bigSepL l (drained c)) -∗ Q ⟨⟩)) ⊢ Wp c (drains (F := F) c l) Q
  | [] => by
    show _ ⊢ Wp c (Prog.ret ⟨⟩) Q
    iintro ⟨-, HO, Hl, Hk⟩
    iapply (Wp_ret c _ Q)
    iapply Hk
    isplitl [HO]; · iexact HO
    iexact Hl
  | r :: l => by
    simp only [drains, Prog.lift, Prog.bind_op, Prog.bind_ret]
    rw [bigSepL_cons', bigSepL_cons']
    unfold drainRes Ow
    iintro ⟨#HR, ⟨%W, HO⟩, ⟨⟨Hat, Hc⟩, Hl⟩, Hk⟩
    iapply (Rounds.wp_wait_rest_token 𝒱₀ ER (sched m) (c : Thread nD τ) none (κ := K (c, .inr (.inl r))) (k' := N)
        (wait_send_eq c r) (Set.mem_univ _) () (O := 0) (W := W) (R := 0) (m := 0) (T := ∅)
        (by rw [Nat.zero_add, expect_snd])) $$ [Hc HO Hat]
    · isplitr; · iapply (inv_at m K (c, .inr (.inl r))); iexact HR
      isplitl [Hc]; · iexact Hc
      isplitl [HO]; · iexact HO
      isplitr; · rw [MayWait_zero]; iempintro
      iexact Hat
    iintro ⟨HO, Hat, -, Hpay⟩
    ihave Hp := (Entails.of_eq (rest_snd m c r)) $$ Hpay
    imod (Rounds.cell_close ER (sched m) (Set.mem_univ (K (c, .inr (.inl r)))) (fun h => h) (R := 0 + 1) (duties_later m (sndCell c r))) $$ [Hat] with Hz
    · isplitr; · iapply (inv_at m K (c, .inr (.inl r))); iexact HR
      iexact Hat
    iapply (wp_drains c Q l)
    unfold drainRes Ow
    isplitr; · iexact HR
    isplitl [HO]; · iexists _; iexact HO
    isplitl [Hl]; · iexact Hl
    iintro ⟨HO, Hl⟩
    iapply Hk
    isplitl [HO]; · iexact HO
    isplitl [Hp Hz]
    · unfold drained
      isplitl [Hp]; · unfold sndPay; iexact Hp
      iexact Hz
    · iexact Hl

end Cert.A2A

end
-- ==== Proof.Pieces.lean ====
/-
A device's buffers in pieces: the three slots for `w`, the shares of `w` itself, and the planes of the peers' blocks;
and the conjunctions over its peers, listed in the orders the body goes through them.
-/
module

public import proofs.«01_k».proof.Proof.Steps

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A buffer in disjoint pieces and the rest -/

section Pieces

variable {n : ℕ} (ℓ : Loc nD τ sig) (S : Fin n → Finset (Idx ℓ)) (hS : ∀ i j, i ≠ j → Disjoint (S i) (S j))

/-- What no piece covers. -/
def restS : Finset (Idx ℓ) := Finset.univ \ Finset.univ.biUnion S

include hS in
/-- A whole buffer is its pieces and the rest; -/
theorem pieces_split : (iprop(∃ f : Buf (Elt F) ℓ, ℓ ↦{fullShare} f) : sProp 𝕄)
    ⊢ iprop((bigSep Finset.univ fun i : Fin n => iprop(∃ f : Buf (Elt F) ℓ, ℓ ↦[S i]{fullShare} f)) ∗ ∃ f : Buf (Elt F) ℓ, ℓ ↦[restS ℓ S]{fullShare} f) := by
  iintro ⟨%f, H⟩
  have one (i : Fin n) : (ℓ ↦[S i]{fullShare} f : sProp 𝕄) ⊢ iprop(∃ f : Buf (Elt F) ℓ, ℓ ↦[S i]{fullShare} f) := by
    iintro H; iexists f; iexact H
  ihave H := (pointsTo_split_subset (ℓ := ℓ) (q := fullShare) (f := f) (Finset.subset_univ (Finset.univ.biUnion S))).1 $$ H
  icases H with ⟨H, Hr⟩
  isplitl [H]
  · ihave H := (Entails.of_eq (pointsTo_biUnion (ℓ := ℓ) (q := fullShare) (f := f) Finset.univ S (fun i _ j _ h => hS i j h))) $$ H
    iapply (show (bigSep Finset.univ fun i : Fin n => (ℓ ↦[S i]{fullShare} f : sProp 𝕄))
      ⊢ bigSep Finset.univ fun i : Fin n => iprop(∃ f : Buf (Elt F) ℓ, ℓ ↦[S i]{fullShare} f) from
      bigSep_mono fun i _ => one i)
    iexact H
  · iexists f; iexact Hr

include hS in
/-- and put together again. -/
theorem pieces_join : iprop((bigSep Finset.univ fun i : Fin n => iprop(∃ f : Buf (Elt F) ℓ, ℓ ↦[S i]{fullShare} f)) ∗ ∃ f : Buf (Elt F) ℓ, ℓ ↦[restS ℓ S]{fullShare} f)
    ⊢ (iprop(∃ f : Buf (Elt F) ℓ, ℓ ↦{fullShare} f) : sProp 𝕄) := by
  iintro ⟨H, ⟨%f, Hr⟩⟩
  ihave H := (show (bigSep Finset.univ fun i : Fin n => (iprop(∃ f : Buf (Elt F) ℓ, ℓ ↦[S i]{fullShare} f) : sProp 𝕄))
    ⊢ iprop(∃ fs : Fin n → Buf (Elt F) ℓ, bigSep Finset.univ fun i : Fin n => ℓ ↦[S i]{fullShare} fs i) from
    haveI : Nonempty (Buf (Elt F) ℓ) := ⟨f⟩
    BI.bigSep_exists_pi Finset.univ fun i (f : Buf (Elt F) ℓ) => (ℓ ↦[S i]{fullShare} f : sProp 𝕄)) $$ H
  icases H with ⟨%fs, H⟩
  ihave H := (pointsTo_biUnion_join (ℓ := ℓ) (q := fullShare) Finset.univ S fs f (fun i _ j _ h => hS i j h)) $$ H
  icases H with ⟨%g, -, H⟩
  iexists ((Finset.univ.biUnion S).piecewise g f)
  iapply (pointsTo_join_subset (ℓ := ℓ) (q := fullShare) (g := g) (f := f) (Finset.subset_univ (Finset.univ.biUnion S)))
  isplitl [H]; · iexact H
  iexact Hr

end Pieces

/-! ## The pieces of the three buffers -/

theorem slotSet_disjoint {s t : Fin 3} (h : s ≠ t) : Disjoint (slotSet s) (slotSet t) := by
  have key : ∀ (s : Fin 3) (i : S3x4096x512.Idx), i ∈ slotSet s → (i 0).val = s.val := by
    intro s i hi
    unfold slotSet at hi
    rw [Rect.mem_set_unit] at hi
    have h0 : (![s.val, 0, 0] : Fin 3 → Nat) 0 ≤ (i 0).val ∧ (i 0).val < (![s.val, 0, 0] : Fin 3 → Nat) 0 + S1x4096x512.size 0 := hi 0
    have e0 : (![s.val, 0, 0] : Fin 3 → Nat) 0 = s.val := rfl
    have e1 : S1x4096x512.size 0 = 1 := rfl
    omega
  rw [Finset.disjoint_left]
  intro i hs ht
  exact h (Fin.ext ((key s i hs).symm.trans (key t i ht)))

theorem planes_disjoint (c : Dev nD) (r r' : Fin 15) (h : r ≠ r') : Disjoint (planeS (pr c r)) (planeS (pr c r')) :=
  planeS_disjoint fun e => h (pr_inj c r r' e)

/-- A conjunction over all devices is device `c`'s part and its peers'. -/
theorem bigSep_peers {M : Type} [URA M] (c : Dev nD) (Φ : Dev nD → sProp M) :
    bigSep Finset.univ Φ = iprop(Φ c ∗ bigSep Finset.univ fun r : Fin 15 => Φ (pr c r)) := by
  have h : (Finset.univ : Finset (Dev nD)).erase c = Finset.univ.map ⟨pr c, fun r r' => pr_inj c r r'⟩ := by
    ext p
    simp only [Finset.mem_erase, Finset.mem_univ, and_true, Finset.mem_map, true_and, Function.Embedding.coeFn_mk]
    exact ⟨pr_surj c p, fun ⟨r, e⟩ => e ▸ pr_ne c r⟩
  rw [bigSep_erase (Finset.mem_univ c), h, bigSep_map]
  rfl

theorem bigSep_sigL {M : Type} [URA M] (Φ : Fin 15 → sProp M) : bigSep Finset.univ Φ = bigSepL sigL Φ :=
  bigSep_univ_eq_bigSepL sigL (by decide) (by decide) Φ
theorem bigSep_sendL {M : Type} [URA M] (Φ : Fin 15 → sProp M) : bigSep Finset.univ Φ = bigSepL sendL Φ :=
  bigSep_univ_eq_bigSepL sendL (by decide) (by decide) Φ
theorem bigSep_recvL {M : Type} [URA M] (Φ : Fin 15 → sProp M) : bigSep Finset.univ Φ = bigSepL recvL Φ :=
  bigSep_univ_eq_bigSepL recvL (by decide) (by decide) Φ
theorem bigSep_three {M : Type} [URA M] (Φ : Fin 3 → sProp M) : bigSep Finset.univ Φ = iprop(Φ 0 ∗ Φ 1 ∗ Φ 2) :=
  bigSep_univ_eq_bigSepL [0, 1, 2] (by decide) (by decide) Φ
theorem bigSep_four {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-! ## The semaphores no peer reaches -/

/-- The loads' three and the one send semaphore that no copy uses. -/
def exS (i : Fin 4) : DmaSem sig := ⟨4 + i.val, by have := i.isLt; show _ < 39; omega⟩
theorem exS_ld : exS 0 = ldS 0 ∧ exS 1 = ldS 1 ∧ exS 2 = ldS 2 := by decide +kernel
/-- They stand at zero. -/
def idleSems (c : Dev nD) : sProp 𝕄 := bigSep Finset.univ fun i : Fin 4 => semVal ((c : Thread nD τ), .dma (exS i)) 0

variable (m : (ℓ : Loc nD τ sig) → Buf (Elt F) ℓ)

/-- Device `c`'s copy of `w`, whole, -/
def wFull (c : Dev nD) : sProp 𝕄 := ((c : Thread nD τ).loc main_arg1) ↦{fullShare} (m ((c : Thread nD τ).loc main_arg1))
/-- the share of it no slot has, -/
def wRest (c : Dev nD) : sProp 𝕄 :=
  ((c : Thread nD τ).loc main_arg1) ↦{Transfers.shareDrop fullShare 3} (m ((c : Thread nD τ).loc main_arg1))
/-- a scratch buffer whole. -/
def scr (c : Dev nD) (b : Ref sig .tc) : sProp 𝕄 := iprop(∃ f : Buf (Elt F) ((c : Thread nD τ).loc b), ((c : Thread nD τ).loc b) ↦{fullShare} f)

/-- What is left over beside the three idle slots. -/
def slotsRest (c : Dev nD) : sProp 𝕄 :=
  iprop(wRest m c ∗ semVal ((c : Thread nD τ), .dma (exS 3)) 0
    ∗ ∃ f : Buf (Elt F) ((c : Thread nD τ).loc cc0_scratch0), ((c : Thread nD τ).loc cc0_scratch0) ↦[restS ((c : Thread nD τ).loc cc0_scratch0) slotSet]{fullShare} f)

/-- The three slots idle, from `w`, their buffer and their semaphores; -/
theorem slots_split (c : Dev nD) : iprop(wFull m c ∗ scr (F := F) c cc0_scratch0 ∗ idleSems c)
    ⊢ iprop((Idle m c 0 ∗ Idle m c 1 ∗ Idle m c 2) ∗ slotsRest m c) := by
  unfold wFull scr idleSems Idle slotsRest wRest wPts
  rw [bigSep_four, exS_ld.1, exS_ld.2.1, exS_ld.2.2]
  iintro ⟨Hw, Hb, ⟨S0, S1, S2, S3⟩⟩
  ihave Hw := (Transfers.pointsTo_toks_split (ℓ := (c : Thread nD τ).loc main_arg1) (f := m ((c : Thread nD τ).loc main_arg1)) (S := Finset.univ) fullShare 3) $$ Hw
  icases Hw with ⟨Hwr, Hw⟩
  ihave Hw := (Entails.of_eq (bigSep_three _)) $$ Hw
  icases Hw with ⟨W0, W1, W2⟩
  ihave Hb := (pieces_split (F := F) ((c : Thread nD τ).loc cc0_scratch0) slotSet (fun i j => slotSet_disjoint)) $$ Hb
  icases Hb with ⟨Hb, Hbr⟩
  ihave Hb := (Entails.of_eq (bigSep_three _)) $$ Hb
  icases Hb with ⟨B0, B1, B2⟩
  isplitr [Hwr Hbr S3]
  · isplitl [S0 B0 W0]
    · isplitl [S0]; · iexact S0
      isplitl [B0]; · unfold bPts; iexact B0
      iexact W0
    isplitl [S1 B1 W1]
    · isplitl [S1]; · iexact S1
      isplitl [B1]; · unfold bPts; iexact B1
      iexact W1
    isplitl [S2]; · iexact S2
    isplitl [B2]; · unfold bPts; iexact B2
    iexact W2
  · isplitl [Hwr]; · iexact Hwr
    isplitl [S3]; · iexact S3
    iexact Hbr

/-- and back. -/
theorem slots_join (c : Dev nD) : iprop((Idle m c 0 ∗ Idle m c 1 ∗ Idle m c 2) ∗ slotsRest m c)
    ⊢ iprop(wFull m c ∗ scr (F := F) c cc0_scratch0 ∗ idleSems c) := by
  unfold wFull scr idleSems Idle slotsRest wRest wPts bPts
  rw [bigSep_four, exS_ld.1, exS_ld.2.1, exS_ld.2.2]
  iintro ⟨⟨⟨S0, B0, W0⟩, ⟨S1, B1, W1⟩, ⟨S2, B2, W2⟩⟩, ⟨Hwr, S3, Hbr⟩⟩
  isplitl [W0 W1 W2 Hwr]
  · iapply (Transfers.pointsTo_toks_join (ℓ := (c : Thread nD τ).loc main_arg1) (f := m ((c : Thread nD τ).loc main_arg1)) (S := Finset.univ) fullShare 3)
    rw [bigSep_three]
    isplitl [Hwr]; · iexact Hwr
    isplitl [W0]; · iexact W0
    isplitl [W1] <;> iassumption
  isplitl [B0 B1 B2 Hbr]
  · iapply (pieces_join (F := F) ((c : Thread nD τ).loc cc0_scratch0) slotSet (fun i j => slotSet_disjoint))
    rw [bigSep_three]
    isplitr [Hbr]
    · isplitl [B0]; · iexact B0
      isplitl [B1] <;> iassumption
    · iexact Hbr
  isplitl [S0]; · iexact S0
  isplitl [S1]; · iexact S1
  isplitl [S2] <;> iassumption

/-- The rest of a stack of blocks beside the peers' planes. -/
def planesRest (c : Dev nD) (ℓ : Loc nD τ sig) (S : Fin 15 → Finset (Idx ℓ)) : sProp 𝕄 := iprop(∃ f : Buf (Elt F) ℓ, ℓ ↦[restS ℓ S]{fullShare} f)

/-- The peers' planes of the computed blocks; -/
theorem yPlanes_split (c : Dev nD) : scr (F := F) c cc0_scratch1
    ⊢ iprop((bigSep Finset.univ fun r : Fin 15 => iprop(∃ f, yPts (F := F) c (pr c r) f))
      ∗ planesRest c ((c : Thread nD τ).loc cc0_scratch1) (fun r => planeS (pr c r))) :=
  pieces_split (F := F) ((c : Thread nD τ).loc cc0_scratch1) (fun r => planeS (pr c r)) (planes_disjoint c)
theorem yPlanes_join (c : Dev nD) : iprop((bigSep Finset.univ fun r : Fin 15 => iprop(∃ f, yPts (F := F) c (pr c r) f))
      ∗ planesRest c ((c : Thread nD τ).loc cc0_scratch1) (fun r => planeS (pr c r))) ⊢ scr (F := F) c cc0_scratch1 :=
  pieces_join (F := F) ((c : Thread nD τ).loc cc0_scratch1) (fun r => planeS (pr c r)) (planes_disjoint c)
/-- of the received ones. -/
theorem rPlanes_split (c : Dev nD) : scr (F := F) c cc0_scratch2
    ⊢ iprop((bigSep Finset.univ fun r : Fin 15 => iprop(∃ f, rPts (F := F) c (pr c r) f))
      ∗ planesRest c ((c : Thread nD τ).loc cc0_scratch2) (fun r => planeS (pr c r))) :=
  pieces_split (F := F) ((c : Thread nD τ).loc cc0_scratch2) (fun r => planeS (pr c r)) (planes_disjoint c)
theorem rPlanes_join (c : Dev nD) : iprop((bigSep Finset.univ fun r : Fin 15 => iprop(∃ f, rPts (F := F) c (pr c r) f))
      ∗ planesRest c ((c : Thread nD τ).loc cc0_scratch2) (fun r => planeS (pr c r))) ⊢ scr (F := F) c cc0_scratch2 :=
  pieces_join (F := F) ((c : Thread nD τ).loc cc0_scratch2) (fun r => planeS (pr c r)) (planes_disjoint c)

end Cert.A2A

end
-- ==== Proof.Obligation.lean ====
/-
The body, whole: from what a device is launched with to its part of the result.
-/
module

public import proofs.«01_k».proof.Proof.Pieces

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The resources of the loops, put together and taken apart -/

theorem sigs_intro (c : Dev nD) :
    iprop((bigSep Finset.univ fun r : Fin 15 => dutyTok ER (barCell (pr c r)) 0 (Fin.rev r))
      ∗ bigSep Finset.univ fun r : Fin 15 => iprop(∃ f, rPts (F := F) c (pr c r) f)) ⊢ bigSepL sigL (sigRes (F := F) c) := by
  rw [← bigSep_sigL, ← bigSep_sep']; exact BI.Entails.refl _

theorem sends_intro (c : Dev nD) :
    iprop((bigSep Finset.univ fun r : Fin 15 => dutyTok ER (sndCell c r) 0 (0 : Fin 15))
      ∗ (bigSep Finset.univ fun r : Fin 15 => dutyTok ER (rcvCell (pr c r) c) 0 (0 : Fin 15))
      ∗ (bigSep Finset.univ fun r : Fin 15 => iprop(∃ f, yPts (F := F) c (pr c r) f))
      ∗ bigSep Finset.univ fun r : Fin 15 => barPay (F := F) c r) ⊢ bigSepL sendL (sendRes (F := F) c) := by
  rw [← bigSep_sendL, ← bigSep_sep', ← bigSep_sep', ← bigSep_sep']; exact BI.Entails.refl _

theorem recvs_intro (c : Dev nD) :
    iprop((bigSep Finset.univ fun r : Fin 15 => atPos ER (rcvCell c (pr c r)) 0 ∅ 0)
      ∗ bigSep Finset.univ fun r : Fin 15 => cred (tallyAt (rcvCell c (pr c r)) () N)) ⊢ bigSepL recvL (recvRes (F := F) c) := by
  rw [← bigSep_recvL, ← bigSep_sep']; exact BI.Entails.refl _

theorem recvs_elim (c : Dev nD) : bigSepL recvL (recvd (F := F) c)
    ⊢ iprop((bigSep Finset.univ fun r : Fin 15 => iprop(∃ f, rPts (F := F) c (pr c r) f))
      ∗ bigSep Finset.univ fun r : Fin 15 => semVal (rcvCell c (pr c r)) 0) := by
  rw [← bigSep_recvL, ← bigSep_sep']; exact BI.Entails.refl _

theorem drains_intro (c : Dev nD) :
    iprop((bigSep Finset.univ fun r : Fin 15 => atPos ER (sndCell c r) 0 ∅ 0)
      ∗ bigSepL sendL fun r : Fin 15 => cred (tallyAt (sndCell c r) () N)) ⊢ bigSepL sendL (drainRes (F := F) c) := by
  rw [← bigSep_sendL, ← bigSep_sendL, ← bigSep_sep']; exact BI.Entails.refl _

theorem drains_elim (c : Dev nD) : bigSepL sendL (drained (F := F) c)
    ⊢ iprop((bigSep Finset.univ fun r : Fin 15 => iprop(∃ f, yPts (F := F) c (pr c r) f))
      ∗ bigSep Finset.univ fun r : Fin 15 => semVal (sndCell c r) 0) := by
  rw [← bigSep_sendL, ← bigSep_sep']; exact BI.Entails.refl _

/-- Every row block is written: the device's own and each peer's. -/
theorem rows_all : ∀ c p : Dev nD, p ∈ recvL.foldl (fun d r => pr c r :: d) [c] := by decide +kernel

theorem outPts_all (c : Dev nD) : outPts m c (recvL.foldl (fun d r => pr c r :: d) [c])
    ⊢ (((c : Thread nD τ).loc cc0_stg3_0) ↦{fullShare} (outAt m c) : sProp 𝕄) := by
  unfold outPts
  iintro ⟨%f, %hf, H⟩
  have e : f = outAt m c := funext fun i => hf i (rows_all c (rowBlk i))
  subst e
  iexact H

/-! ## Before and after -/

/-- What device `c` is launched with, beside its scratch buffers. -/
def start (c : Dev nD) : sProp 𝕄 := iprop(ghost m c ∗ credits c ∗ levAts L lv ∗ idleSems c ∗ wFull m c)
def Φ₀ (c : Dev nD) : sProp 𝕄 := iprop(start m c ∗ scr (F := F) c cc0_scratch0 ∗ scr (F := F) c cc0_scratch1 ∗ scr (F := F) c cc0_scratch2)
/-- The scoped semaphores, all at zero. -/
def ownZero (c : Dev nD) : sProp 𝕄 :=
  iprop(idleSems c ∗ (bigSep Finset.univ fun r : Fin 15 => semVal (sndCell c r) 0) ∗ bigSep Finset.univ fun p : Dev nD => semVal (rcvCell c p) 0)
/-- After the body: `w` as it was, every semaphore at zero, the scratch buffers. -/
def Φ₁ (c : Dev nD) : sProp 𝕄 :=
  iprop((wFull m c ∗ semVal (barCell c) 0) ∗ ownZero c ∗ scr (F := F) c cc0_scratch0 ∗ scr (F := F) c cc0_scratch1 ∗ scr (F := F) c cc0_scratch2)

/-- The staged inputs. -/
def staged (c : Dev nD) : sProp 𝕄 :=
  iprop((((c : Thread nD τ).loc cc0_stg0_0) ↦{fullShare} (xstg m c)) ∗ (((c : Thread nD τ).loc cc0_stg1_0) ↦{fullShare} (sxstg m c))
    ∗ (((c : Thread nD τ).loc cc0_stg2_0) ↦{fullShare} (swstg m c)))

def bodyPost (c : Dev nD) : sProp 𝕄 :=
  iprop(Φ₁ m c ∗ Ow c 0 ∗ staged m c ∗ (((c : Thread nD τ).loc cc0_stg3_0) ↦{fullShare} (outAt m c)))

variable (K : Dev nD × CK → ℕ)

def bodyPre (c : Dev nD) : sProp 𝕄 :=
  iprop((records m K ∗ positions c ∗ payToks c) ∗ credits c ∗ levAts L lv ∗ idleSems c ∗ wFull m c
    ∗ (scr (F := F) c cc0_scratch0 ∗ scr (F := F) c cc0_scratch1 ∗ scr (F := F) c cc0_scratch2)
    ∗ Ow c (O₀ c) ∗ staged m c ∗ outPts m c [])

/-! ## The barrier -/

/-- The wait on the barrier: each peer's plane for `c` comes with it, and the cell is closed. -/
theorem wp_barrier (c : Dev nD) {α : Type} (k : PUnit → Prog (TpuEff nD τ sig (Elt F) Λ₀ .tc) α) (Q : α → sProp 𝕄) :
    iprop(records m K ∗ levAts L lv ∗ Ow c (oRcv c sendL) ∗ atPos ER (barCell c) 0 ∅ 0 ∗ cred (tallyAt (barCell c) () 15)
        ∗ ((Ow c (oRcv c sendL) ∗ semVal (barCell c) 0 ∗ bigSep Finset.univ fun r : Fin 15 => barPay (F := F) c r) -∗ Wp c (k ⟨⟩) Q))
      ⊢ Wp c (.op (.semWait barS (15#32).toNat) k) Q := by
  unfold Ow
  iintro ⟨#HR, #Hlev, ⟨%W, HO⟩, Hat, Hc, Hk⟩
  ihave #HI := (inv_at m K (c, .inl ())) $$ HR
  iapply (Rounds.wp_wait_rest_token 𝒱₀ ER (sched m) (c : Thread nD τ) none (κ := K (c, .inl ()))
      (wpE_semWait_eq 𝒱₀ (c : Thread nD τ) none Set.univ) (Set.mem_univ _) () (O := oRcv c sendL) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hpay := (Entails.of_eq (rest_bar m c)) $$ Hpay
  imod (Rounds.cell_close ER (sched m) (Set.mem_univ (K (c, .inl ()))) (fun h => h) (R := 0 + 1) (duties_later m (barCell c))) $$ [Hat] with Hz
  · isplitr; · iexact HI
    iexact Hat
  iapply Hk
  isplitl [HO]; · iexists _; iexact HO
  isplitl [Hz]; · iexact Hz
  iexact Hpay

/-! ## The body -/

set_option maxHeartbeats 1000000 in
/-- The body, from `bodyPre` to `bodyPost`. -/
theorem sound_body (c : Dev nD) (Q : PUnit → sProp 𝕄) :
    iprop(bodyPre m K c ∗ (bodyPost m c -∗ Q ⟨⟩)) ⊢ Wp c (body (F := F)) Q := by
  unfold body
  simp only [semWaitWord, smemLoad, smemLoadElt, Prog.lift, Prog.bind_op, Prog.bind_ret, wp_deviceId]
  unfold bodyPre positions payToks credits staged O₀
  iintro ⟨⟨⟨#HR, ⟨HaB, HaS, HaV⟩, ⟨HtB, HtS, HtV⟩⟩, ⟨HcB, HcV⟩, #Hlev, Hidle, Hw, ⟨Hb, Hy, Hr⟩, HO, ⟨Hx, Hsx, Hsw⟩, Hout⟩, Hk⟩
  -- the pieces
  ihave Hslots := (slots_split m c) $$ [Hw Hb Hidle]
  · isplitl [Hw]; · iexact Hw
    isplitl [Hb] <;> iassumption
  icases Hslots with ⟨⟨I0, I1, I2⟩, Hrest⟩
  ihave Hy := (yPlanes_split c) $$ Hy
  icases Hy with ⟨Hy, Hyr⟩
  ihave Hr := (rPlanes_split c) $$ Hr
  icases Hr with ⟨Hr, Hrr⟩
  ihave HaV := (Entails.of_eq (bigSep_peers c fun p : Dev nD => (atPos ER (rcvCell c p) 0 ∅ 0 : sProp 𝕄))) $$ HaV
  icases HaV with ⟨Hac, HaV⟩
  ihave #HIc := (inv_at m K (c, .inr (.inr c))) $$ HR
  imod (Rounds.cell_close ER (sched m) (Set.mem_univ (K (c, .inr (.inr c)))) (fun h => h) (R := 0) (fun r _ => duties_rcv_self m c r)) $$ [Hac] with Hzc
  · isplitr; · iexact HIc
    iexact Hac
  -- the signals
  iapply (Wp_bind c _ _ Q)
  iapply (wp_signals m K c (oRcv c sendL) _ sigL)
  isplitr; · iexact HR
  isplitl [HO]; · iexact HO
  isplitl [HtB Hr]
  · iapply (sigs_intro c); isplitl [HtB] <;> iassumption
  iintro HO
  -- the barrier
  iapply (wp_barrier m K c)
  isplitr; · iexact HR
  isplitr; · iexact Hlev
  isplitl [HO]; · iexact HO
  isplitl [HaB]; · iexact HaB
  isplitl [HcB]; · iexact HcB
  iintro ⟨HO, HzB, Hpay⟩
  -- the scales and the block of `x`
  iapply (wp_load_rect 𝒱₀ (c : Thread nD τ) none Set.univ (m := sxM) (r := rS) (Finset.subset_univ _)) $$ Hsx; iintro Hsx
  iapply (wp_load_rect 𝒱₀ (c : Thread nD τ) none Set.univ (m := swM) (r := rS) (Finset.subset_univ _)) $$ Hsw; iintro Hsw
  iapply (wp_load 𝒱₀ (c : Thread nD τ) none Set.univ (m := xM) (Finset.subset_univ _)) $$ Hx; iintro Hx
  -- the first two loads of `w`
  iapply (Wp_bind c _ _ Q)
  iapply (wp_startLd m c 8 0)
  isplitl [I0]; · iexact I0
  iintro B0
  iapply (Wp_bind c _ _ Q)
  iapply (wp_startLd m c 9 1)
  isplitl [I1]; · iexact I1
  iintro B1
  -- the blocks
  iapply (Wp_bind c _ _ Q)
  iapply (wp_steps m K c restL 7 8 0 1 2)
  isplitr; · iexact HR
  isplitr; · iexact Hlev
  isplitl [HO]; · iexact HO
  isplitl [B0]; · iexact B0
  isplitl [B1]; · iexact B1
  isplitl [I2]; · iexact I2
  isplitl [HtS HtV Hy Hpay]
  · iapply (sends_intro c)
    isplitl [HtS]; · iexact HtS
    isplitl [HtV]; · iexact HtV
    isplitl [Hy] <;> iassumption
  isplitl [Hout]; · iexact Hout
  iintro ⟨HO, HI, HcS, Hout⟩
  -- the receptions
  iapply (Wp_bind c _ _ Q)
  iapply (wp_recvs m K c recvL [c])
  isplitr; · iexact HR
  isplitl [HO]; · iexact HO
  isplitl [HaV HcV]
  · iapply (recvs_intro c); isplitl [HaV] <;> iassumption
  isplitl [Hout]; · iexact Hout
  iintro ⟨HO, Hrec, Hout⟩
  ihave Hrec := (recvs_elim c) $$ Hrec
  icases Hrec with ⟨Hr, HzV⟩
  -- the sends have left
  iapply (wp_drains m K c Q sendL)
  isplitr; · iexact HR
  isplitl [HO]; · iexact HO
  isplitl [HaS HcS]
  · iapply (drains_intro c); isplitl [HaS] <;> iassumption
  iintro ⟨HO, Hdr⟩
  ihave Hdr := (drains_elim c) $$ Hdr
  icases Hdr with ⟨Hy, HzS⟩
  -- everything back
  ihave Hslots := (slots_join m c) $$ [HI Hrest]
  · isplitl [HI] <;> iassumption
  icases Hslots with ⟨Hw, Hb, Hidle⟩
  ihave Hy := (yPlanes_join c) $$ [Hy Hyr]
  · isplitl [Hy] <;> iassumption
  ihave Hr := (rPlanes_join c) $$ [Hr Hrr]
  · isplitl [Hr] <;> iassumption
  ihave HzV := (Entails.of_eq (bigSep_peers c fun p : Dev nD => (semVal (rcvCell c p) 0 : sProp 𝕄)).symm) $$ [Hzc HzV]
  · isplitl [Hzc] <;> iassumption
  ihave Hout := (outPts_all m c) $$ Hout
  iapply Hk
  unfold bodyPost Φ₁ ownZero staged
  isplitl [Hw HzB Hidle HzS HzV Hb Hy Hr]
  · isplitl [Hw HzB]; · isplitl [Hw] <;> iassumption
    isplitl [Hidle HzS HzV]
    · isplitl [Hidle]; · iexact Hidle
      isplitl [HzS] <;> iassumption
    isplitl [Hb]; · iexact Hb
    isplitl [Hy] <;> iassumption
  isplitl [HO]; · iexact HO
  isplitl [Hx Hsx Hsw]
  · isplitl [Hx]; · iexact Hx
    isplitl [Hsx] <;> iassumption
  iexact Hout

end Cert.A2A

end
-- ==== Proof.Dats.lean ====
/-
The body as the launch meets it: the windows staged before it, and what it leaves in them.
-/
module

public import proofs.«01_k».proof.Proof.Obligation

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The arrays the body is staged from, what it leaves in their staging buffers, its invariant before and after, and what it owes. -/
def dats (_ : Fin 1) (c : Dev nD) : Pipeline.Dat τ (Elt F) Unit ℕ UU ℕ cfg0 c where
  A w := m ((cfg0.win w).arr.view.loc (c : Thread nD τ))
  after w _ := match w with
    | ⟨0, _⟩ => xstg m c
    | ⟨1, _⟩ => sxstg m c
    | ⟨2, _⟩ => swstg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the launch hands the body; -/
def stagePre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
/-- what it takes back. -/
def stagePost (c : Dev nD) : sProp 𝕄 :=
  iprop(Φ₁ m c ∗ (dats m 0 c).owesAt () t0_0.succ ∗ stg c cc0_stg0_0 (xstg m c) ∗ stg c cc0_stg1_0 (sxstg m c) ∗ stg c cc0_stg2_0 (swstg m c)
    ∗ stg c cc0_stg3_0 (outAt m c))

/-- What the body finds staged: the block of `x` and the two scales. -/
theorem before_x (c : Dev nD) (d) : (dats m 0 c).before (0 : Fin 4) t0_0 d = xstg m c := by
  unfold Pipeline.Dat.before; rw [if_pos (fetch0_0 t0_0)]; rfl
theorem before_sx (c : Dev nD) (d) : (dats m 0 c).before (1 : Fin 4) t0_0 d = sxstg m c := by
  unfold Pipeline.Dat.before; rw [if_pos (fetch0_1 t0_0)]; rfl
theorem before_sw (c : Dev nD) (d) : (dats m 0 c).before (2 : Fin 4) t0_0 d = swstg m c := by
  unfold Pipeline.Dat.before; rw [if_pos (fetch0_2 t0_0)]; rfl

theorem pre_intro (c : Dev nD) : stagePre m c ⊢ iprop(∃ K, bodyPre m K c) := by
  unfold stagePre Φ₀ start ghost bodyPre staged Pipeline.Dat.owesAt Pipeline.owesWithin Ow
  iintro ⟨⟨⟨⟨%K, Hg⟩, Hcr, Hlev, Hidle, Hw⟩, Hscr⟩, ⟨%W, %hW, HO⟩, ⟨%d0, %g0, %h0, Hx⟩, ⟨%d1, %g1, %h1, Hsx⟩, ⟨%d2, %g2, %h2, Hsw⟩, ⟨%d3, %g3, %h3, Hout⟩⟩
  have e0 : g0 = xstg m c := h0.trans (before_x m c d0)
  have e1 : g1 = sxstg m c := h1.trans (before_sx m c d1)
  have e2 : g2 = swstg m c := h2.trans (before_sw m c d2)
  subst e0 e1 e2
  iexists K
  isplitl [Hg]; · iexact Hg
  isplitl [Hcr]; · iexact Hcr
  isplitl [Hlev]; · iexact Hlev
  isplitl [Hidle]; · iexact Hidle
  isplitl [Hw]; · iexact Hw
  isplitl [Hscr]; · iexact Hscr
  isplitl [HO]; · iexists W; iexact HO
  isplitl [Hx Hsx Hsw]
  · isplitl [Hx]; · iexact Hx
    isplitl [Hsx] <;> iassumption
  unfold outPts
  iexists g3
  isplitr; · ipureintro; exact fun i h => absurd h List.not_mem_nil
  iexact Hout

theorem post_elim (c : Dev nD) : bodyPost m c ⊢ stagePost m c := by
  unfold bodyPost stagePost staged Pipeline.Dat.owesAt Pipeline.owesWithin Ow
  iintro ⟨HΦ, ⟨%W, HO⟩, ⟨Hx, Hsx, Hsw⟩, Hout⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

set_option maxRecDepth 65536 in
/-- The launch's obligation of the body on device `c`. -/
theorem body_obligation (c : Dev nD) : Pipeline.BodyObligation (dats (F := F) m 0 c) (defs₀ (F := F)) 𝒱₀ () Set.univ := fun t => by
  rw [fin_N0 t]
  rw [bigSep_W, bigSep_W]
  simp only [owns, Memref.view_whole, View.set_whole, View.read_whole]
  show stagePre m c ⊢ wp frame (wpE (defs₀ (F := F)) 𝒱₀ c none) Set.univ
    (cc0_body (F := F) xM (Memref.isWhole_whole _) wM (Memref.isWhole_whole _) sxM (Memref.isWhole_whole _) swM (Memref.isWhole_whole _)
      oM (Memref.isWhole_whole _) bM (Memref.isWhole_whole _) yM (Memref.isWhole_whole _) rM (Memref.isWhole_whole _) cc0_scratch3 cc0_scratch4 cc0_scratch5)
    (fun _ => stagePost m c)
  rw [body_eq]
  refine (pre_intro m c).trans ?_
  iintro ⟨%K, H⟩
  iapply (sound_body m K c fun _ => stagePost m c)
  isplitl [H]; · iexact H
  iintro H
  iapply (post_elim m c); iexact H

end Cert.A2A

end
-- ==== Proof.Deal.lean ====
/-
What the devices are launched with: the cells' invariants, the duties dealt to whoever pays them, the credit of what they are owed.
-/
module

public import proofs.«01_k».proof.Proof.Dats

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The scoped semaphores -/

/-- The kernel's own semaphores: those no peer reaches, the sends', the receptions'. -/
abbrev osem : Fin 4 ⊕ Fin 15 ⊕ Dev nD → SemLoc sig
  | .inl i => .dma (exS i)
  | .inr (.inl r) => .dma (sdS r)
  | .inr (.inr p) => .dma (rvMeS p)

theorem ownSemFacts : Pipeline.OwnSemFacts cfg0.spec osem := by decide +kernel

theorem bigSep_unit {M : Type} [URA M] (Φ : Unit → sProp M) : bigSep Finset.univ Φ = Φ () :=
  bigSep_univ_eq_bigSepL [()] (by decide) (by decide) Φ

theorem ownSems0_eq (c : Dev nD) :
    (Pipeline.ownSems0 (Ix := Unit) (Name := ℕ) (U := UU) (Lvl := ℕ) (Val := Elt F) (τ := τ) osem c : sProp 𝕄) = ownZero c := by
  unfold Pipeline.ownSems0 ownZero idleSems
  rw [bigSep_univ_sum, bigSep_univ_sum]; rfl

/-- The barrier semaphore is the one semaphore not scoped to the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A conjunction over a device's cells. -/
theorem bigSep_CK {M : Type} [URA M] (Φ : CK → sProp M) :
    bigSep Finset.univ Φ = iprop(Φ (.inl ()) ∗ (bigSep Finset.univ fun r : Fin 15 => Φ (.inr (.inl r))) ∗ bigSep Finset.univ fun p : Dev nD => Φ (.inr (.inr p))) := by
  rw [bigSep_univ_sum, bigSep_univ_sum, bigSep_unit]; rfl

theorem sems0_eq (c : Dev nD) :
    iprop(Pipeline.ownSems0 (Ix := Unit) (Name := ℕ) (U := UU) (Lvl := ℕ) (Val := Elt F) (τ := τ) osem c ∗ unscopedSems0 c)
      ⊢ (iprop(idleSems c ∗ bigSep Finset.univ fun k : CK => semVal (kcell (c, k)) 0) : sProp 𝕄) := by
  rw [ownSems0_eq, unscopedSems0_eq, bigSep_CK]
  unfold ownZero
  iintro ⟨⟨HI, HS, HV⟩, HB⟩
  isplitl [HI]; · iexact HI
  isplitl [HB]; · iexact HB
  isplitl [HS] <;> iassumption

/-! ## The launch element -/

theorem csem_injective : Function.Injective csem := by
  have h : ∀ k k' : CK, csem k = csem k' → k = k' := by decide +kernel
  exact fun k k' => h k k'
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  subst h1 h2; rfl
def cells : Finset (GSem nD τ sig) := Finset.univ.map ⟨kcell, kcell_injective⟩

/-- The duties on a device's own cells: its barrier's fifteen, its sends', its receptions'. -/
abbrev TI : Type := Fin 15 ⊕ Fin 15 ⊕ Fin 15
def tokCell (c : Dev nD) : TI → CK
  | .inl _ => .inl ()
  | .inr (.inl r) => .inr (.inl r)
  | .inr (.inr r) => .inr (.inr (pr c r))
def tokDuty : TI → Fin 15
  | .inl d => d
  | .inr _ => 0
def tokOf (ct : Dev nD × TI) : GSem nD τ sig × ℕ × Fin 15 := (kcell (ct.1, tokCell ct.1 ct.2), 0, tokDuty ct.2)
theorem tokOf_injective : Function.Injective tokOf := by
  rintro ⟨c, t⟩ ⟨c', t'⟩ h
  have hk := kcell_injective (congrArg Prod.fst h)
  have hd : tokDuty t = tokDuty t' := congrArg (fun x : GSem nD τ sig × ℕ × Fin 15 => x.2.2) h
  have h1 : c = c' := congrArg Prod.fst hk
  subst h1
  have h2 : tokCell c t = tokCell c t' := congrArg Prod.snd hk
  have h3 : t = t' := by
    rcases t with d | r | r <;> rcases t' with d' | r' | r'
    · exact congrArg Sum.inl hd
    · cases h2
    · cases h2
    · cases h2
    · exact congrArg (Sum.inr ∘ Sum.inl) (Sum.inl.inj (Sum.inr.inj h2))
    · cases Sum.inr.inj h2
    · cases h2
    · cases Sum.inr.inj h2
    · exact congrArg (Sum.inr ∘ Sum.inr) (pr_inj c r r' (Sum.inr.inj (Sum.inr.inj h2)))
  subst h3; rfl
def tokens : Finset (GSem nD τ sig × ℕ × Fin 15) := Finset.univ.map ⟨tokOf, tokOf_injective⟩

def u₀ : UU :=
  (initOf (Pipeline.cells cfgs cellOf_inj) (Pipeline.launchToks cfgs cellOf_inj), (initOf cells tokens, 1))

/-- The duty tokens of device `c`'s own cells. -/
def toks (c : Dev nD) : sProp 𝕄 :=
  iprop((bigSep Finset.univ fun d : Fin 15 => dutyTok ER (barCell c) 0 d)
    ∗ (bigSep Finset.univ fun r : Fin 15 => dutyTok ER (sndCell c r) 0 (0 : Fin 15))
    ∗ (bigSep Finset.univ fun r : Fin 15 => dutyTok ER (rcvCell c (pr c r)) 0 (0 : Fin 15)))

/-- What the launch element deals device `c`; -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)
/-- what is made of it. -/
def G' (c : Dev nD) : sProp 𝕄 := iprop(ghost m c ∗ idleSems c)

theorem fund_cells : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [bigSep_univ_sum, bigSep_univ_sum]; rfl
  iintro HX
  imod (Rounds.fund ER (sched m) cells tokens) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem launch_elem : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX := (show BI.own (embR (initOf cells tokens, (1 : Counters))) ⊢ (iprop(BI.own (ER (initOf cells tokens)) ∗ BI.own (EC 1)) : sProp 𝕄) from own_pair_emb _ _ _) $$ HX
  icases HX with ⟨HX, -⟩
  imod (fund_cells m) $$ HX with HG
  imodintro
  isplitl [HP] <;> iassumption

/-! ## The cells' invariants, and the tokens dealt out -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ idleSems c) := by
  unfold G
  iintro ⟨Hos, Hus, Hst, Hat, Htok⟩
  ihave Hv := (sems0_eq (F := F) c) $$ [Hos Hus]
  · isplitl [Hos] <;> iassumption
  icases Hv with ⟨Hi, Hv⟩
  imod (show iprop((bigSep Finset.univ fun k : CK => semVal (kcell (c, k)) 0) ∗ bigSep Finset.univ fun k : CK => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- A conjunction over devices and distances, each device counting from its peer's end. -/
theorem around (Φ : Dev nD → Fin 15 → sProp 𝕄) :
    (bigSep Finset.univ fun c : Dev nD => bigSep Finset.univ fun r : Fin 15 => Φ c r)
      = bigSep Finset.univ fun c : Dev nD => bigSep Finset.univ fun r : Fin 15 => Φ (pr c r) (Fin.rev r) := by
  rw [Pipeline.bigSep_univ_comm, Pipeline.bigSep_univ_comm (fun (c : Dev nD) (r : Fin 15) => Φ (pr c r) (Fin.rev r)),
    bigSep_univ_equiv Fin.revPerm (fun r : Fin 15 => bigSep Finset.univ fun c : Dev nD => Φ c r)]
  exact bigSep_congr fun r _ => bigSep_univ_equiv (shift r) (fun c : Dev nD => Φ c (Fin.rev r))

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around fun (c : Dev nD) (d : Fin 15) => (dutyTok ER (barCell c) 0 d : sProp 𝕄),
    around fun (c : Dev nD) (r : Fin 15) => (dutyTok ER (rcvCell c (pr c r)) 0 (0 : Fin 15) : sProp 𝕄)]
  simp only [pr_rev]
  exact BI.Entails.refl _

/-- What stays with device `c`. -/
def linear (c : Dev nD) : sProp 𝕄 := iprop(positions c ∗ payToks c ∗ idleSems c)

theorem ghost_intro (K : Dev nD × CK → ℕ) (c : Dev nD) : iprop(records m K ∗ linear c) ⊢ G' m c := by
  unfold linear G' ghost
  iintro ⟨HR, Hp, Ht, Hi⟩
  isplitr [Hi]
  · iexists K
    isplitl [HR]; · iexact HR
    isplitl [Hp] <;> iassumption
  · iexact Hi

theorem linear_eq (c : Dev nD) : iprop((bigSep Finset.univ fun k : CK => atPos ER (kcell (c, k)) 0 ∅ 0) ∗ payToks c ∗ idleSems c)
    ⊢ (linear c : sProp 𝕄) := by
  unfold linear positions; rw [bigSep_CK]

theorem linear_intro : (iprop((bigSep Finset.univ fun c : Dev nD => bigSep Finset.univ fun k : CK => atPos ER (kcell (c, k)) 0 ∅ 0)
      ∗ (bigSep Finset.univ fun c : Dev nD => payToks c) ∗ bigSep Finset.univ fun c : Dev nD => idleSems c) : sProp 𝕄)
    ⊢ bigSep Finset.univ fun c : Dev nD => linear c := by
  rw [← bigSep_sep', ← bigSep_sep']
  exact bigSep_mono fun c _ => linear_eq c

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ idleSems c) : sProp 𝕄)
      ⊢ bigSep Finset.univ (G' m) := by
  rw [bigSep_sep', bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hi⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply (linear_intro (F := F))
    isplitl [Hat]; · iexact Hat
    isplitl [Htk] <;> iassumption

/-- All devices' semaphores at zero and what the launch element deals them become what each is launched with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : barCell a = barCell b ↔ a = b :=
  ⟨fun h => congrArg (fun g : GSem nD τ sig => g.1.1) h, fun h => h ▸ rfl⟩
theorem rcv_eq_iff {a p b q : Dev nD} : rcvCell a p = rcvCell b q ↔ a = b ∧ p = q := by
  constructor
  · intro h
    have h1 := kcell_injective (a₁ := (a, .inr (.inr p))) (a₂ := (b, .inr (.inr q))) h
    exact ⟨congrArg Prod.fst h1, Sum.inr.inj (Sum.inr.inj (congrArg Prod.snd h1))⟩
  · rintro ⟨rfl, rfl⟩; rfl
theorem bar_ne_rcv (a b p : Dev nD) : barCell a ≠ rcvCell b p := fun h => by
  have h1 := kcell_injective (a₁ := (a, .inl ())) (a₂ := (b, .inr (.inr p))) h
  cases congrArg Prod.snd h1

/-- How often `c` is among the listed peers of `d`. -/
def times (d c : Dev nD) (l : List (Fin 15)) : ℕ := (l.map fun r => if c = pr d r then 1 else 0).sum

theorem oRcv_bar (d c : Dev nD) : ∀ l, oRcv d l (barCell c) () = 0
  | [] => rfl
  | r :: l => by
    unfold oRcv
    rw [Pi.add_apply, Finsupp.add_apply, oRcv_bar d c l, tallyAt_ne_cell (bar_ne_rcv _ _ _), Finsupp.zero_apply, Nat.add_zero]
theorem oRcv_rcv (d c p : Dev nD) : ∀ l, oRcv d l (rcvCell c p) () = if p = d then times d c l * N else 0
  | [] => by unfold times oRcv; split <;> simp
  | r :: l => by
    unfold oRcv
    rw [Pi.add_apply, Finsupp.add_apply, oRcv_rcv d c p l, tallyAt_apply]
    unfold times
    rw [List.map_cons, List.sum_cons]
    by_cases hp : p = d
    · rw [if_pos hp, if_pos hp]
      by_cases hc : c = pr d r
      · rw [if_pos ⟨rcv_eq_iff.mpr ⟨hc, hp⟩, rfl⟩, if_pos hc, Nat.add_mul, Nat.one_mul, Nat.add_comm]
      · rw [if_neg fun h => hc (rcv_eq_iff.mp h.1).1, if_neg hc, Nat.zero_add, Nat.add_zero]
    · rw [if_neg hp, if_neg hp, if_neg fun h => hp (rcv_eq_iff.mp h.1).2]
theorem oBar_bar (d c : Dev nD) (O : CellTallies nD τ sig Unit) : ∀ l, oBar d O l (barCell c) () = O (barCell c) () + times d c l
  | [] => rfl
  | r :: l => by
    unfold oBar
    rw [Pi.add_apply, Finsupp.add_apply, oBar_bar d c O l, tallyAt_apply]
    unfold times
    rw [List.map_cons, List.sum_cons]
    by_cases hc : c = pr d r
    · rw [if_pos ⟨bar_eq_iff.mpr hc, rfl⟩, if_pos hc]; omega
    · rw [if_neg fun h => hc (bar_eq_iff.mp h.1), if_neg hc]; omega
theorem oBar_rcv (d c p : Dev nD) (O : CellTallies nD τ sig Unit) : ∀ l, oBar d O l (rcvCell c p) () = O (rcvCell c p) ()
  | [] => rfl
  | r :: l => by
    unfold oBar
    rw [Pi.add_apply, Finsupp.add_apply, oBar_rcv d c p O l, tallyAt_ne_cell (fun h => bar_ne_rcv _ _ _ h.symm), Finsupp.zero_apply, Nat.add_zero]

theorem times_bar : ∀ c : Dev nD, ∑ d : Dev nD, times d c sigL = 15 := by decide +kernel
theorem times_rcv : ∀ (c : Dev nD) (r : Fin 15), times (pr c r) c sendL = 1 := by decide +kernel

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same]
  refine (Finset.sum_congr rfl fun d _ => ?_).trans (times_bar c)
  unfold O₀; rw [oBar_bar, oRcv_bar, Nat.zero_add]
theorem launch_rcv (c : Dev nD) (r : Fin 15) :
    tallyOn (rcvCell c (pr c r)) (launchCredit (Pipeline.owing O₀) 0 (rcvCell c (pr c r)))
      = (tallyAt (rcvCell c (pr c r)) () N : CellTallies nD τ sig Unit) := by
  unfold tallyAt; refine congrArg _ (Finsupp.ext fun u => ?_); cases u
  rw [Pipeline.launchCredit_owing, Finsupp.single_eq_same]
  refine (Finset.sum_congr rfl fun d _ => show O₀ d (rcvCell c (pr c r)) () = if pr c r = d then times d c sendL * N else 0 from ?_).trans ?_
  · unfold O₀; rw [oBar_rcv, oRcv_rcv]
  · rw [Finset.sum_ite_eq Finset.univ (pr c r) fun d => times d c sendL * N, if_pos (Finset.mem_univ _), times_rcv, Nat.one_mul]

theorem creds (c : Dev nD) : (Pipeline.launchCred O₀ c : sProp 𝕄) ⊢ credits c := by
  have hinj : Function.Injective fun r : Fin 15 => (SemLoc.dma (rvMeS (pr c r)) : SemLoc sig) := fun r r' h =>
    pr_inj c r r' (Sum.inr.inj (Sum.inr.inj (csem_injective (a₁ := .inr (.inr (pr c r))) (a₂ := .inr (.inr (pr c r'))) h)))
  unfold Pipeline.launchCred credits
  rw [bigSep_univ_at _ (SemLoc.reg barS), launch_bar]
  refine sep_mono_right ?_
  refine (bigSep_subset (t := Finset.univ.map ⟨_, hinj⟩) fun x hx => ?_).trans ?_
  · obtain ⟨r, -, rfl⟩ := Finset.mem_map.mp hx
    exact Finset.mem_erase.mpr ⟨fun h => (by cases h), Finset.mem_univ _⟩
  · rw [bigSep_map]
    exact Entails.of_eq (bigSep_congr fun r _ => congrArg cred (launch_rcv c r))

end Cert.A2A

end
-- ==== Proof.WholeWindow.lean ====
/-
Windows whose block is the whole of their array, and loads of the whole of a buffer.
-/
module

public import Idealize.ShloMosaic.Lib.Pipeline.Value

@[expose] public section

noncomputable section

namespace Cert.A2A

open Idealize.ShloMosaic

variable {sig : RefSig} {Val : EltTy → Type}

/-- What is read through the block of a window of the whole array is what is read of the array. -/
theorem read_whole_window {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole)
    (t : Fin Pipeline.Grid.none.N) (f : arr.view.ty.Contents Val) :
    ((Pipeline.Window.whole arr isOut sync stage sem harr hstage).blk t).view.read Val f = arr.view.read Val f := by
  funext j
  show arr.view.read Val f _ = arr.view.read Val f j
  refine congrArg (arr.view.read Val f) (funext fun a => Fin.ext ?_)
  show 0 * s.size a + 1 * (j a).val = (j a).val
  omega

theorem zeros2 : (![0, 0] : Fin 2 → Nat) = fun _ => 0 := funext fun a => by fin_cases a <;> rfl

/-- A load of a whole matrix gives what the buffer was said to hold. -/
theorem load_matrix {sp : Space} {d : Fin 2 → Nat} {e : EltTy} (a : Memref sig .tc sp ⟨2, d⟩ e) (h : a.IsWhole) (x : (⟨2, d⟩ : Shape).Idx → Val e)
    (inb : ∀ i : Fin 2, (![0, 0] : Fin 2 → Nat) i + d i ≤ d i) :
    a.view.readAt Val (Rect.unit (s := ⟨2, d⟩) ![0, 0] d inb).toLoadRect (h.unread x) = x := by
  rw [View.readAt_eq_ld, h.read_unread]
  exact View.ld_unit_zero (S := ⟨2, d⟩) zeros2 inb x

/-- The one index of an array of one element. -/
def only : (⟨1, ![1]⟩ : Shape).Idx := fun a => match a with | ⟨0, _⟩ => (⟨0, Nat.one_pos⟩ : Fin 1)
theorem eq_only (i : (⟨1, ![1]⟩ : Shape).Idx) : i = only := funext fun a => by
  match a with
  | ⟨0, _⟩ => exact Subsingleton.elim (α := Fin 1) _ _

end Cert.A2A

end
-- ==== Proof.Whole.lean ====
/-
Each window is the whole of its array: what is staged, and what is written back.
-/
module

public import proofs.«01_k».proof.Proof.Dats
public import proofs.«01_k».proof.Proof.WholeWindow

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What is staged is the whole of an argument: the rows of `x`, -/
theorem xstg_eq (c : Dev nD) : xstg m c = (m ((c : Thread nD τ).loc main_arg0) : S256x4096.Idx → Elt F .fp8e5m2) :=
  read_whole_window (Memref.whole main_arg0) _ _ _ _ (Memref.isWhole_whole _) (Memref.isWhole_whole _) t0_0 _
/-- and the scales. -/
theorem sxstg_eq (c : Dev nD) : sxstg m c = (m ((c : Thread nD τ).loc main_arg2) : S1.Idx → Elt F .f32) :=
  read_whole_window (Memref.whole main_arg2) _ _ _ _ (Memref.isWhole_whole _) (Memref.isWhole_whole _) t0_0 _
theorem swstg_eq (c : Dev nD) : swstg m c = (m ((c : Thread nD τ).loc main_arg3) : S1.Idx → Elt F .f32) :=
  read_whole_window (Memref.whole main_arg3) _ _ _ _ (Memref.isWhole_whole _) (Memref.isWhole_whole _) t0_0 _

/-- What is written back is the whole of the result. -/
theorem arrAt_out (c : Dev nD) : (dats m 0 c).arrAt (3 : Fin 4) cfg0.N = outAt m c :=
  (read_whole_window (Memref.whole main_v1) _ _ _ _ (Memref.isWhole_whole _) (Memref.isWhole_whole _) t0_0 ((dats m 0 c).arrAt (3 : Fin 4) cfg0.N)).symm.trans
    ((dats m 0 c).read_blk_arrAt_eq_flushed (3 : Fin 4) (fun t t' _ _ h => absurd ((fin_N0 t).trans (fin_N0 t').symm) h)
      cfg0.N t0_0 t0_0.isLt (flush0_3 t0_0))

end Cert.A2A

end
-- ==== Proof.Run.lean ====
/-
Every execution of the kernel on the sixteen devices ends, and what memory holds then.
-/
module

public import proofs.«01_k».proof.Proof.Deal
public import proofs.«01_k».proof.Proof.Whole
public import Idealize.ShloMosaic.Lib.Pipeline.CollectiveSegs

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The launch's side conditions -/

/-- What is kept after the kernel and read at the end: the whole of `w`, and the barrier semaphore at zero. -/
def kept (c : Dev nD) : sProp 𝕄 := iprop(wFull m c ∗ unscopedSems0 c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' wFull
  iintro ⟨Hw, Hlev, Hcr, -, Hg, Hi⟩
  ihave Hc := (creds (F := F) c) $$ Hcr
  imodintro
  isplitl
  · isplitl [Hg]; · iexact Hg
    isplitl [Hc]; · iexact Hc
    isplitl [Hlev]; · iexact Hlev
    isplitl [Hi]; · iexact Hi
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl, scopedRest0_eq, ownSems0_eq]
  unfold Φ₁ kept
  rw [unscopedSems0_eq]
  iintro ⟨Hk, Hz, Hr⟩
  isplitl [Hk]; · iexact Hk
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m 0 c).share w = fullShare := by
  unfold Pipeline.Dat.share; split <;> rfl

/-- What is read of `kept` in a final state. -/
def Kept (c : Dev nD) (s : MemSt nD τ sig (Elt F)) : Prop :=
  s.mem ((c : Thread nD τ).loc main_arg1) = m ((c : Thread nD τ).loc main_arg1)
    ∧ ∀ sm : SemLoc sig, sm.isScoped .tc = false → s.sem ((c.tc : Thread nD τ), sm) = 0

theorem kept_read (c : Dev nD) (s : Phys nD τ sig (Elt F)) :
    iprop(kept m c ∗ SI s) ⊢ (|={Set.univ}=> iprop(⌜Kept m c s.mem⌝ ∗ SI s) : sProp 𝕄) := by
  unfold kept wFull
  iintro ⟨⟨Hw, Hu⟩, HSI⟩
  icombine HSI Hw gives %hw
  imod (Pipeline.unscopedSems0_read (X := unscopedSems0 c) (c := c) fupd_intro s) $$ [Hu HSI] with ⟨%hu, HSI⟩
  · isplitl [Hu] <;> iassumption
  imodintro
  isplitr
  · ipureintro; exact ⟨funext fun i => hw i (Finset.mem_univ i), hu⟩
  · iexact HSI

/-! ## The run -/

/-- What the array of a window holds at the end. -/
def finalA (c : Dev nD) (w : Fin cfg0.W) : Buf (Elt F) ((cfg0.win w).arr.view.loc (c : Thread nD τ)) := (dats m 0 c).arrAt w cfg0.N

set_option maxRecDepth 8000 in
/-- From any memory with every semaphore at zero, on the mesh of sixteen devices and over any float values: every weakly
    fair execution ends, with each window's array as the kernel leaves it, `w` unchanged and every semaphore at zero. -/
theorem run_main : θ_run (defs (F := F)) (onTc (τ := τ) (main (F := F))) ⟨m, fun _ => 0, ρ⟩ (fun r =>
    (∀ c : Dev nD, (∀ w : Fin cfg0.W, r.2.mem ((cfg0.win w).arr.view.loc (c : Thread nD τ)) = finalA m c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀) (hu₀ := launch_elem m) (hglob := glob m)
    (hA := fun _ _ => rfl) (hpf := fun _ k => k.elim0)
    (X := start m) (Y := kept m) (Z := fun _ => iprop(emp))
    (hX := start_intro m ρ) (hin := phi0_intro m) (hout := phi1_exit m)
    (QY := Kept m)
    (hY := fun c s' => by
      iintro ⟨Hu, -, HSI⟩
      iapply (kept_read m c s')
      isplitl [Hu] <;> iassumption)
    (hQ := fun _ h hs => ⟨fun c => ⟨(h c).1, (h c).2.2.1⟩, sem_eq_zero hs fun c => (h c).2.2.2⟩)

/-- The arrays that are read hold what they held; -/
theorem final_x (c : Dev nD) : finalA m c (0 : Fin 4) = m ((c : Thread nD τ).loc main_arg0) := (dats m 0 c).arrAt_in (0 : Fin 4) rfl _
theorem final_sx (c : Dev nD) : finalA m c (1 : Fin 4) = m ((c : Thread nD τ).loc main_arg2) := (dats m 0 c).arrAt_in (1 : Fin 4) rfl _
theorem final_sw (c : Dev nD) : finalA m c (2 : Fin 4) = m ((c : Thread nD τ).loc main_arg3) := (dats m 0 c).arrAt_in (2 : Fin 4) rfl _

/-- the result's holds the blocks of `outAt`. -/
theorem final_out (c : Dev nD) : finalA m c (3 : Fin 4) = outAt m c := arrAt_out m c

/-- So every execution ends with the result of device `c` in its array, the arguments unchanged and every semaphore at zero. -/
theorem run_result : θ_run (defs (F := F)) (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run _ _ _).mono (fun _ h => ⟨fun c => ⟨((h.1 c).1 (3 : Fin 4)).trans (final_out m c), ((h.1 c).1 (0 : Fin 4)).trans (final_x m c), (h.1 c).2,
    ((h.1 c).1 (1 : Fin 4)).trans (final_sx m c), ((h.1 c).1 (2 : Fin 4)).trans (final_sw m c)⟩, h.2⟩) (run_main m ρ)

end Cert.A2A

end
-- ==== Proof.Act.lean ====
/-
The function both programs compute, over the extended reals: an entry of `silu ((x · w) · s)`, where the sigmoid's
argument is clipped to [-60, 60]; and that multiplying by `1 / (1 + e^(-y))` is dividing by `1 + e^(-y)`.
-/
module

public import Idealize.ShloMosaic.PureOps.Ideal.Laws

@[expose] public section

noncomputable section

namespace Cert.A2A

open Idealize.ShloMosaic

/-- The word of 1 is 1. -/
theorem word_one : Ideal.ofBits .f32 0x3F800000#32 = 1 := by simp [Ideal.ofBits, Ideal.ieee, -EReal.coe_mul]; norm_num

/-- The denominator of the sigmoid: one more than the exponential of the clipped argument's negative. -/
def den (y : EReal) : EReal :=
  Ideal.ofBits .f32 0x3F800000#32
    + Ideal.exp (Ideal.ofBits .f32 0x00000000#32 - min (Ideal.ofBits .f32 0x42700000#32) (max (Ideal.ofBits .f32 0xC2700000#32) y))
/-- `y` times the sigmoid of the clipped `y`. -/
def act (y : EReal) : EReal := Ideal.div y (den y)
/-- An entry of the result, from a row of `x`, a column of `w` and the scale. -/
def entry {K : ℕ} (x w : Fin K → EReal) (s : EReal) : EReal := act ((∑ k, x k * w k) * s)

theorem exp_nonneg' (x : EReal) : 0 ≤ Ideal.exp x := by
  induction x with
  | bot => exact le_refl _
  | top => exact le_top
  | coe r => rw [Ideal.exp_coe]; exact EReal.coe_nonneg.mpr (Real.exp_pos r).le

theorem den_ne_zero (y : EReal) : den y ≠ 0 := by
  unfold den
  rw [word_one]
  exact (lt_of_lt_of_le zero_lt_one (le_add_of_nonneg_right (exp_nonneg' _))).ne'

/-- Multiplying by the reciprocal of the denominator is dividing by it. -/
theorem mul_recip (y : EReal) : y * Ideal.div (Ideal.ofBits .f32 0x3F800000#32) (den y) = act y := by
  unfold act Ideal.div
  rw [if_neg (den_ne_zero y), if_neg (den_ne_zero y), word_one, one_mul]

end Cert.A2A

end
-- ==== Proof.BlockValue.lean ====
/-
What a block of the kernel holds over the extended reals: entry (r, l) of the block device `p` computes for device `c` is
`entry` of row r of `p`'s rows of `x` and column `512 c + l` of `w`.
-/
module

public import proofs.«01_k».proof.Proof.Act
public import proofs.«01_k».proof.Proof.Whole
public import Idealize.ShloMosaic.Lib.MatmulPlain

@[expose] public section

noncomputable section

namespace Cert.A2A

open Cert.KernelIdeal Cert.KernelIdeal.Gen
open Idealize.ShloMosaic Idealize.ShloMosaic.TcCoe Idealize.ShloMosaic.ValueIdx
open Idealize.SL Idealize.SL.Sem

/-! ## The payloads -/

/-- A block is the product of rows and columns, scaled, through `act`. -/
theorem pay27_apply (s : EReal) (x : FVec Ideal S256x4096 .bf16) (w : Vec Ideal S4096x512 .fp8e5m2) (r : Fin 256) (l : Fin 512) :
    k0_pay27 (F := Ideal) s x (shapeCast S1x4096x512 w cast_w) (ix2 r l) = entry (fun k : Fin 4096 => x (ix2 r k)) (fun k => w (ix2 k l)) s := by
  unfold k0_pay27
  rw [shapeCast_shapeCast]
  refine (mul_recip _).trans ?_
  unfold entry
  refine congrArg (fun z : EReal => act (z * s)) ?_
  refine (Ideal.matmul_plain_apply (M := 256) (K := 4096) (N := 512) none x (extf .bf16 w bitsLt_fp8e5m2_bf16) (constant S256x512 .f32 0x00000000#32) r l).trans ?_
  exact (congrArg (· + _) Ideal.ofBits_zero_f32).trans (zero_add _)

/-- Sent in the narrower format and widened again, it is the same block. -/
theorem pay28_pay3 (s : EReal) (x : FVec Ideal S256x4096 .bf16) (w : Vec Ideal S1x4096x512 .fp8e5m2) :
    k0_pay28 (F := Ideal) (k0_pay3 (F := Ideal) s x w) = k0_pay27 (F := Ideal) s x w := by
  unfold k0_pay28 k0_pay3 k0_pay27
  simp only [shapeCast_self, shapeCast_shapeCast]
  rfl

/-! ## The operands -/

variable (m : (ℓ : Loc nD τ sig) → Buf (Elt Ideal) ℓ)

/-- The arguments on device `c`, and the product of its scales. -/
abbrev xA (c : Dev nD) : S256x4096.Idx → EReal := m ((c : Thread nD τ).loc main_arg0)
abbrev wA (c : Dev nD) : S4096x8192.Idx → EReal := m ((c : Thread nD τ).loc main_arg1)
abbrev sxA (c : Dev nD) : S1.Idx → EReal := m ((c : Thread nD τ).loc main_arg2)
abbrev swA (c : Dev nD) : S1.Idx → EReal := m ((c : Thread nD τ).loc main_arg3)
def sA (c : Dev nD) : EReal := sxA m c only * swA m c only

theorem xV_eq (c : Dev nD) : xV m c = xA m c := by
  unfold xV k0_pay2
  rw [shapeCast_self, View.readAt_eq_ld, View.ld_unit_zero zeros2, xstg_eq]
  rfl

theorem sV_eq (c : Dev nD) : sV m c = sA m c := by
  unfold sV k0_pay1 sA
  rw [sxstg_eq, swstg_eq]
  show sxA m c _ * swA m c _ = _
  rw [eq_only ((sxM.access rS).emb iS), eq_only ((swM.access rS).emb iS)]

/-- Column `l` of column block `q` of `w`. -/
def colIdx (q : Dev nD) (l : Fin 512) : Fin 8192 := ⟨512 * q.val + l.val, by have h : q.val < 16 := q.isLt; have h' := l.isLt; omega⟩
theorem wcol_apply (c q : Dev nD) (k : Fin 4096) (l : Fin 512) : wcol m c q (ix2 k l) = wA m c (ix2 k (colIdx q l)) := by
  show wA m c ((wcolM q).view.emb (ix2 k l)) = _
  refine congrArg (wA m c) (funext fun a => Fin.ext ?_)
  match a with
  | ⟨0, _⟩ => show 0 + 1 * k.val = k.val; omega
  | ⟨1, _⟩ => show 512 * q.val + 1 * l.val = 512 * q.val + l.val; omega

/-! ## The result -/

theorem ownB_apply (p c : Dev nD) (r : Fin 256) (l : Fin 512) :
    k0_pay27 (F := Ideal) (sV m p) (xV m p) (wld m p c) (ix2 r l)
      = entry (fun k : Fin 4096 => xA m p (ix2 r k)) (fun k => wA m p (ix2 k (colIdx c l))) (sA m p) := by
  unfold wld
  rw [sV_eq, xV_eq, pay27_apply]
  exact congrArg (fun w : Fin 4096 → EReal => entry _ w (sA m p)) (funext fun k => wcol_apply m p c k l)

/-- Row block `p` of the result of device `c`, whether computed there or received. -/
theorem outBlk_apply (c p : Dev nD) (r : Fin 256) (l : Fin 512) :
    outBlk m c p (ix2 r l) = entry (fun k : Fin 4096 => xA m p (ix2 r k)) (fun k => wA m p (ix2 k (colIdx c l))) (sA m p) := by
  unfold outBlk
  split
  · rename_i h; subst h; exact ownB_apply m _ _ r l
  · unfold blk; rw [pay28_pay3]; exact ownB_apply m p c r l

end Cert.A2A

end
-- ==== Proof.RefValue.lean ====
/-
What the reference computes: its result as one function of its arguments, and an entry of it over the extended reals.
-/
module

public import proofs.«01_k».proof.Proof.Act
public import proofs.«01_k».proof.Proof.Gen.ReferenceIdeal.Value
public import proofs.«01_k».proof.Proof.WholeWindow
public import Idealize.ShloMosaic.Lib.MatmulPlain

@[expose] public section

noncomputable section

namespace Cert.A2A.Ref

open Cert.ReferenceIdeal Cert.ReferenceIdeal.Gen Cert.ReferenceIdeal.Value
open Idealize.ShloMosaic Idealize.ShloMosaic.TcCoe Idealize.ShloMosaic.ValueIdx Idealize.SL.Sem

variable {F : FTy → Type} [FloatOps F]

/-- The result from the arguments. -/
def result (x : Vec F S4096x4096 .fp8e5m2) (w : Vec F S4096x8192 .fp8e5m2) (sx sw : Vec F S1 .f32) : Vec F S4096x8192 .f32 :=
  k0_pay1 x w (sx only) (sw only)

/-- The body stores `result` of what it is given. -/
theorem stored (c : Dev nD) (xM : Memref sig .tc .vmem S4096x4096 .fp8e5m2) (hx : xM.IsWhole) (wM : Memref sig .tc .vmem S4096x8192 .fp8e5m2) (hw : wM.IsWhole)
    (sxM : Memref sig .tc .smem S1 .f32) (hsx : sxM.IsWhole) (swM : Memref sig .tc .smem S1 .f32) (hsw : swM.IsWhole)
    (oM : Memref sig .tc .vmem S4096x8192 .f32) (ho : oM.IsWhole)
    (x : Vec F S4096x4096 .fp8e5m2) (w : Vec F S4096x8192 .fp8e5m2) (sx sw : Vec F S1 .f32) :
    out0_A_4 c xM hx wM hw sxM hsx swM hsw oM ho x w sx sw = result x w sx sw := by
  have word (a : Memref sig .tc .smem S1 .f32) (h : a.IsWhole) (v : Vec F S1 .f32) (i) :
      a.view.readAt (Elt F) (Rect.unit (s := S1) ![0] S1.size inb_S1_S1_0).toLoadRect (h.unread v) i = v only := by
    rw [View.readAt_eq_ld, h.read_unread]
    exact congrArg v (eq_only _)
  refine (View.read_writes_junk_eq_canon _ _).trans ((View.canon_unit_zero zeros2 inb_S4096x8192_S4096x8192_0_0 _).trans ?_)
  unfold result
  exact (congrArg₂ (fun a b => k0_pay1 a b _ _) (load_matrix xM hx x inb_S4096x4096_S4096x4096_0_0) (load_matrix wM hw w inb_S4096x8192_S4096x8192_0_0)).trans
    (congrArg₂ (k0_pay1 x w) (word sxM hsx sx _) (word swM hsw sw _))

variable (m : (ℓ : Loc nD τ sig) → Buf (Elt F) ℓ)

/-- What each window of an argument stages is the argument, -/
theorem staged_x (c : Dev nD) (t : Fin cfg0.N) : iblk m c 0 t = m ((c : Thread nD τ).loc main_arg0) :=
  read_whole_window (Memref.whole main_arg0) _ _ _ _ (Memref.isWhole_whole _) (Memref.isWhole_whole _) t _
theorem staged_w (c : Dev nD) (t : Fin cfg0.N) : iblk m c 1 t = m ((c : Thread nD τ).loc main_arg1) :=
  read_whole_window (Memref.whole main_arg1) _ _ _ _ (Memref.isWhole_whole _) (Memref.isWhole_whole _) t _
theorem staged_sx (c : Dev nD) (t : Fin cfg0.N) : iblk m c 2 t = m ((c : Thread nD τ).loc main_arg2) :=
  read_whole_window (Memref.whole main_arg2) _ _ _ _ (Memref.isWhole_whole _) (Memref.isWhole_whole _) t _
theorem staged_sw (c : Dev nD) (t : Fin cfg0.N) : iblk m c 3 t = m ((c : Thread nD τ).loc main_arg3) :=
  read_whole_window (Memref.whole main_arg3) _ _ _ _ (Memref.isWhole_whole _) (Memref.isWhole_whole _) t _

/-- so the array of the result holds `result` of the arguments after the run. -/
theorem final_out (c : Dev nD) : (dats m 0 c).arrAt 4 cfg0.N
    = result (m ((c : Thread nD τ).loc main_arg0)) (m ((c : Thread nD τ).loc main_arg1)) (m ((c : Thread nD τ).loc main_arg2)) (m ((c : Thread nD τ).loc main_arg3)) := by
  have back : (dats m 0 c).flushed 4 t0_0 = out0_A_4 c (ms0_0 t0_0) (hs0_0 t0_0) (ms0_1 t0_0) (hs0_1 t0_0) (ms0_2 t0_0) (hs0_2 t0_0)
      (ms0_3 t0_0) (hs0_3 t0_0) (ms0_4 t0_0) (hs0_4 t0_0) (iblk m c 0 t0_0) (iblk m c 1 t0_0) (iblk m c 2 t0_0) (iblk m c 3 t0_0) := flushed4_A m c t0_0
  rw [stored, staged_x, staged_w, staged_sx, staged_sw] at back
  have read (f : Vec F S4096x8192 .f32) : (win0_4.blk t0_0).view.read (Elt F) f = f :=
    read_whole_window (Memref.whole main_v0) _ _ _ _ (Memref.isWhole_whole _) (Memref.isWhole_whole _) t0_0 f
  exact (read _).symm.trans ((blocks4 m c t0_0 (flush0_4 t0_0)).trans back)

/-- Entry (i, j) of the result over the extended reals, from row i of `x` and column j of `w`. -/
theorem result_apply (x : Vec Ideal S4096x4096 .fp8e5m2) (w : Vec Ideal S4096x8192 .fp8e5m2) (sx sw : Vec Ideal S1 .f32) (i : Fin 4096) (j : Fin 8192) :
    result (F := Ideal) x w sx sw (ix2 i j)
      = entry (fun k : Fin 4096 => (x (ix2 i k) : EReal)) (fun k => (w (ix2 k j) : EReal)) ((sx only : EReal) * (sw only : EReal)) := by
  unfold result k0_pay1 entry
  refine congrArg (fun z : EReal => act (z * ((sx only : EReal) * (sw only : EReal)))) ?_
  refine (Ideal.matmul_plain_apply (M := 4096) (K := 4096) (N := 8192) none (extf .f32 x bitsLt_fp8e5m2_f32) (extf .f32 w bitsLt_fp8e5m2_f32)
    (constant S4096x8192 .f32 0x00000000#32) i j).trans ?_
  exact (congrArg (· + _) Ideal.ofBits_zero_f32).trans (zero_add _)

end Cert.A2A.Ref

end
-- ==== Proof.Equation.lean ====
/-
The equation: when each device starts with its rows of `x`, and with all of `w` and of the scales, the result of device `c`
is column block `c` of what the reference computes from the whole arguments.
-/
module

public import proofs.«01_k».proof.Proof.BlockValue
public import proofs.«01_k».proof.Proof.RefValue
public import Idealize.ShloMosaic.Lib.Layout

@[expose] public section

noncomputable section

namespace Cert.A2A

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The device that holds row `i` of `x`, and the row of its share that is row `i`. -/
abbrev rowDev (i : Fin 4096) : Dev nD := ⟨i.val / 256, by have h := i.isLt; show _ < 16; omega⟩
abbrev rowIn (i : Fin 4096) : Fin 256 := ⟨i.val % 256, Nat.mod_lt _ (by decide)⟩

/-- An entry of a device's result, from the share of `x` of the device whose row it is. -/
theorem outAt_apply (c : Dev nD) (i : Fin 4096) (l : Fin 512) :
    outAt m c (ix2 i l)
      = entry (fun k : Fin 4096 => xA m (rowDev i) (ix2 (rowIn i) k)) (fun k => wA m (rowDev i) (ix2 k (colIdx c l))) (sA m (rowDev i)) := by
  refine Eq.trans ?_ (outBlk_apply m c (rowDev i) (rowIn i) l)
  refine congrArg (outBlk m c (rowDev i)) (funext fun a => ?_)
  match a with
  | ⟨0, _⟩ => rfl
  | ⟨1, _⟩ => rfl

variable (X : (⟨2, ![4096, 4096]⟩ : Shape).Idx → EReal) (W : S4096x8192.Idx → EReal) (SX SW : S1.Idx → EReal)

/-- Row `i` of `x` is a row of its device's share. -/
theorem share_row (hx : ∀ c, xA m c = Layout.block ⟨2, ![256, 4096]⟩ ⟨2, ![4096, 4096]⟩ 0 16 c X) (i k : Fin 4096) :
    xA m (rowDev i) (ix2 (rowIn i) k) = X (ix2 i k) := by
  rw [hx, Layout.block_apply]
  refine congrArg X (funext fun a => Fin.ext ?_)
  match a with
  | ⟨0, _⟩ =>
    refine (Layout.idx_rows_val _ _ _).1.trans ?_
    show i.val / 256 * 256 + i.val % 256 = i.val
    omega
  | ⟨1, _⟩ => exact (Layout.idx_rows_val _ _ _).2

/-- Each device's result is its column block of the reference's. -/
theorem outAt_eq_block (hx : ∀ c, xA m c = Layout.block ⟨2, ![256, 4096]⟩ ⟨2, ![4096, 4096]⟩ 0 16 c X)
    (hw : ∀ c, wA m c = W) (hsx : ∀ c, sxA m c = SX) (hsw : ∀ c, swA m c = SW) (c : Dev nD) :
    outAt m c = Layout.block ⟨2, ![4096, 512]⟩ ⟨2, ![4096, 8192]⟩ 1 16 c (Ref.result (F := Ideal) X W SX SW) := by
  funext e
  obtain ⟨i, l, rfl⟩ : ∃ (i : Fin 4096) (l : Fin 512), e = ix2 i l := ⟨e 0, e 1, funext fun a => by
    match a with
    | ⟨0, _⟩ => rfl
    | ⟨1, _⟩ => rfl⟩
  have place (h : Layout.Tiles ⟨2, ![4096, 512]⟩ ⟨2, ![4096, 8192]⟩ 1 16) : h.idx c (ix2 i l) = ix2 i (colIdx c l) := by
    refine funext fun a => Fin.ext ?_
    match a with
    | ⟨0, _⟩ => exact (Layout.idx_cols_val h c (ix2 i l)).1
    | ⟨1, _⟩ =>
      refine (Layout.idx_cols_val h c (ix2 i l)).2.trans ?_
      show c.val * 512 + l.val = 512 * c.val + l.val
      omega
  rw [Layout.block_apply, place]
  refine Eq.trans ?_ (Ref.result_apply X W SX SW i (colIdx c l)).symm
  rw [outAt_apply]
  unfold sA
  rw [hw, hsx, hsw]
  exact congrArg (fun row => entry row (fun k : Fin 4096 => W (ix2 k (colIdx c l))) (SX only * SW only)) (funext fun k => share_row m X hx i k)

end Cert.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem

/-- Whatever the floats are, the kernel runs to the end, leaves its arguments as they were and every counter at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3))
      ∧ r.2.sem = fun _ => 0) :=
  (θ_run (Cert.KernelIdeal.defs (F := F)) _ _).mono (fun _ h => ⟨fun c => (h.1 c).2, h.2⟩) (Cert.A2A.run_result (F := F) m ρ)

/-- The kernel's two printed texts are one program: their bodies are the same, -/
theorem bodies_eq {F : FTy → Type} [FloatOps F] : Cert.Kernel.defs₀ (F := F) = Cert.KernelIdeal.defs₀ (F := F) := by
  unfold Cert.Kernel.defs₀ Cert.KernelIdeal.defs₀
  refine congrArg _ (funext fun l => funext fun a => ?_)
  match l, a with
  | 0, (t, s) => rfl
theorem defs_eq {F : FTy → Type} [FloatOps F] : Cert.Kernel.defs (F := F) = Cert.KernelIdeal.defs (F := F) :=
  congrArg (fun d => Pipeline.defs Cert.KernelIdeal.pcfgs d) bodies_eq

/-- so the other text does the same, -/
theorem frame_text {F : FTy → Type} [FloatOps F]
    (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD,
        r.2.mem (c.tc.loc Cert.Kernel.main_arg0) = m (c.tc.loc Cert.Kernel.main_arg0)
        ∧ r.2.mem (c.tc.loc Cert.Kernel.main_arg1) = m (c.tc.loc Cert.Kernel.main_arg1)
        ∧ r.2.mem (c.tc.loc Cert.Kernel.main_arg2) = m (c.tc.loc Cert.Kernel.main_arg2)
        ∧ r.2.mem (c.tc.loc Cert.Kernel.main_arg3) = m (c.tc.loc Cert.Kernel.main_arg3))
      ∧ r.2.sem = fun _ => 0) := by
  rw [defs_eq]
  exact frame_any m ρ

/-- over machine floats, -/
theorem frame_kernel : Cert.quiescent_Kernel := fun m ρ _ => frame_text (F := Bits) m ρ

/-- over the extended reals too, -/
theorem frame_kernelIdeal : Cert.quiescent_KernelIdeal := fun m ρ _ => frame_any (F := Ideal) m ρ

/-- and so does the reference. -/
theorem frame_referenceIdeal : Cert.quiescent_ReferenceIdeal := fun m ρ _ => Cert.ReferenceIdeal.Gen.frame m ρ

/-- Over the extended reals the kernel's results, put side by side, are the reference's result. -/
theorem same_result : Cert.algebraic_KernelIdeal_ReferenceIdeal := fun m g m' g' _ hargs =>
  ⟨Cert.A2A.Ref.result (F := Ideal) (m' ((0 : Dev Cert.ReferenceIdeal.nD).tc.loc Cert.ReferenceIdeal.main_arg0))
      (m' ((0 : Dev Cert.ReferenceIdeal.nD).tc.loc Cert.ReferenceIdeal.main_arg1)) (m' ((0 : Dev Cert.ReferenceIdeal.nD).tc.loc Cert.ReferenceIdeal.main_arg2))
      (m' ((0 : Dev Cert.ReferenceIdeal.nD).tc.loc Cert.ReferenceIdeal.main_arg3)),
    (θ_run (Cert.KernelIdeal.defs (F := Ideal)) _ _).mono
      (fun _ h c => ⟨(h.1 c).1.trans (Cert.A2A.outAt_eq_block m _ _ _ _ (fun d => (hargs d).1) (fun d => (hargs d).2.1)
        (fun d => (hargs d).2.2.1) (fun d => (hargs d).2.2.2) c), (h.1 c).2⟩)
      (Cert.A2A.run_result (F := Ideal) m g),
    (θ_run (Cert.ReferenceIdeal.defs (F := Ideal)) _ _).mono
      (fun _ h => ⟨(h 0).1.trans (Cert.A2A.Ref.final_out m' 0), (h 0).2⟩)
      (Cert.ReferenceIdeal.Value.run_blocks (F := Ideal) m' g')⟩

/-- The claim. -/
theorem claim : Cert.Claim :=
  ⟨Cert.Kernel.Gen.facts, Cert.KernelIdeal.Gen.facts, Cert.ReferenceIdeal.Gen.facts,
    frame_kernel, frame_kernelIdeal, frame_referenceIdeal, trivial, same_result⟩

end Cert.Proof

end
